-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 1024]⟩ ⟨2, ![2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2048x512 : Shape := ⟨2, ![2048, 512]⟩
abbrev S512x16 : Shape := ⟨2, ![512, 16]⟩
abbrev S2048x1 : Shape := ⟨2, ![2048, 1]⟩
abbrev S4x512x1024 : Shape := ⟨3, ![4, 512, 1024]⟩
abbrev S512x1024 : Shape := ⟨2, ![512, 1024]⟩
abbrev S_ : Shape := ⟨0, ![]⟩

class Facts : Prop where
  bcast_S_S2048x512 : S_.BroadcastsInDim S2048x512 (![] : Fin 0 → Fin S2048x512.rank)
  bcast_S_S512x16 : S_.BroadcastsInDim S512x16 (![] : Fin 0 → Fin S512x16.rank)

variable [Facts]

def fn {F : FTy → Type} [FloatOps F] (main_arg0 : FVec F S2048x512 .f32) (main_arg1 : FVec F S512x16 .f32) (main_arg2 : IVec S2048x1 32) (main_arg3 : FVec F S4x512x1024 .f32) (main_arg4 : FVec F S512x1024 .f32) : IVec S2048x512 1 × IVec S512x16 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S512x16 .f32 := Host.absf main_arg1
  let main_cst_0 : FVec F S_ .f32 := constant S_ .f32 0x7F800000#32
  let main_v4 : FVec F S512x16 .f32 := broadcastInDim S512x16 ![] bcast_S_S512x16 main_cst_0
  let main_v5 : IVec S512x16 1 := cmpf .olt main_v3 main_v4
  (main_v2, main_v5)
-- ==== Pre_finite_scores_ReferenceIdeal.lean ====
abbrev S2048x512 : Shape := ⟨2, ![2048, 512]⟩
abbrev S512x16 : Shape := ⟨2, ![512, 16]⟩
abbrev S2048x1 : Shape := ⟨2, ![2048, 1]⟩
abbrev S16x512x1024 : Shape := ⟨3, ![16, 512, 1024]⟩
abbrev S512x1024 : Shape := ⟨2, ![512, 1024]⟩
abbrev S_ : Shape := ⟨0, ![]⟩

class Facts : Prop where
  bcast_S_S2048x512 : S_.BroadcastsInDim S2048x512 (![] : Fin 0 → Fin S2048x512.rank)
  bcast_S_S512x16 : S_.BroadcastsInDim S512x16 (![] : Fin 0 → Fin S512x16.rank)

variable [Facts]

def fn {F : FTy → Type} [FloatOps F] (main_arg0 : FVec F S2048x512 .f32) (main_arg1 : FVec F S512x16 .f32) (main_arg2 : IVec S2048x1 32) (main_arg3 : FVec F S16x512x1024 .f32) (main_arg4 : FVec F S512x1024 .f32) : IVec S2048x512 1 × IVec S512x16 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S512x16 .f32 := Host.absf main_arg1
  let main_cst_0 : FVec F S_ .f32 := constant S_ .f32 0x7F800000#32
  let main_v4 : FVec F S512x16 .f32 := broadcastInDim S512x16 ![] bcast_S_S512x16 main_cst_0
  let main_v5 : IVec S512x16 1 := cmpf .olt main_v3 main_v4
  (main_v2, main_v5)
-- ==== Kernel.lean ====
abbrev S2048x512 : Shape := ⟨2, ![2048, 512]⟩
abbrev S512x16 : Shape := ⟨2, ![512, 16]⟩
abbrev S2048x1 : Shape := ⟨2, ![2048, 1]⟩
abbrev S4x512x1024 : Shape := ⟨3, ![4, 512, 1024]⟩
abbrev S512x1024 : Shape := ⟨2, ![512, 1024]⟩
abbrev S2048x16 : Shape := ⟨2, ![2048, 16]⟩
abbrev S3x512x1024 : Shape := ⟨3, ![3, 512, 1024]⟩
abbrev S3 : Shape := ⟨1, ![3]⟩
abbrev S_ : Shape := ⟨0, ![]⟩
abbrev S2048 : Shape := ⟨1, ![2048]⟩
abbrev S512x512 : Shape := ⟨2, ![512, 512]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩

abbrev nBuf : Space → Nat
  | .hbm => 6
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S512x16, .f32⟩
  | .hbm, ⟨2, _⟩ => ⟨S2048x1, .i32⟩
  | .hbm, ⟨3, _⟩ => ⟨S4x512x1024, .f32⟩
  | .hbm, ⟨4, _⟩ => ⟨S512x1024, .f32⟩
  | .hbm, ⟨5, _⟩ => ⟨S512x1024, .f32⟩
  | .local _ .vmem, ⟨0, _⟩ => ⟨S2048x512, .f32⟩
  | .local _ .vmem, ⟨1, _⟩ => ⟨S512x16, .f32⟩
  | .local _ .vmem, ⟨2, _⟩ => ⟨S2048x1, .i32⟩
  | .local _ .vmem, ⟨3, _⟩ => ⟨S4x512x1024, .f32⟩
  | .local _ .vmem, ⟨4, _⟩ => ⟨S512x1024, .f32⟩
  | .local _ .vmem, ⟨5, _⟩ => ⟨S512x1024, .f32⟩
  | .local _ .vmem, ⟨6, _⟩ => ⟨S2048x16, .f32⟩
  | .local _ .vmem, ⟨7, _⟩ => ⟨S4x512x1024, .bf16⟩
  | .local _ .vmem, ⟨8, _⟩ => ⟨S3x512x1024, .bf16⟩
  | .local _ .vmem, ⟨9, _⟩ => ⟨S3x512x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => false
  | ⟨1, _⟩ => true
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 2 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_29 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v46 : BitVec 32 := Scalar.addi v2 c1_i32_29
  let c4_i32_30 : BitVec 32 := 4#32
  let v47 : BitVec 32 := Scalar.remsi v46 c4_i32_30
  let c512_i32 : BitVec 32 := 512#32
  let v48 : BitVec 32 := Scalar.muli v47 c512_i32
  let v49 : Index := Scalar.indexCast v48
  let c0_31 : Index := 0#32
  ![v49.toNat, 0]
def k0_off2 (d0 : Dev nD) (c1_i32_29 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v46 : BitVec 32 := Scalar.addi v2 c1_i32_29
  let c4_i32_30 : BitVec 32 := 4#32
  let v47 : BitVec 32 := Scalar.remsi v46 c4_i32_30
  let c512_i32_32 : BitVec 32 := 512#32
  let v52 : BitVec 32 := Scalar.muli v47 c512_i32_32
  let v53 : Index := Scalar.indexCast v52
  let c0_33 : Index := 0#32
  ![v53.toNat, 0]
def k0_dev4 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_29 : BitVec 32 := 1#32
  let v46 : BitVec 32 := Scalar.addi v2 c1_i32_29
  let c4_i32_30 : BitVec 32 := 4#32
  let v47 : BitVec 32 := Scalar.remsi v46 c4_i32_30
  let c1_i32_70 : BitVec 32 := 1#32
  let v119 : BitVec 32 := Scalar.muli v47 c1_i32_70
  let v120 : BitVec 32 := Scalar.addi c0_i32_71 v119
  v120.toNat
def k0_dev5 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_76 : BitVec 32 := 2#32
  let v129 : BitVec 32 := Scalar.addi v2 c2_i32_76
  let c4_i32_77 : BitVec 32 := 4#32
  let v130 : BitVec 32 := Scalar.remsi v129 c4_i32_77
  let c1_i32_121 : BitVec 32 := 1#32
  let v202 : BitVec 32 := Scalar.muli v130 c1_i32_121
  let v203 : BitVec 32 := Scalar.addi c0_i32_122 v202
  v203.toNat
def k0_dev6 (d0 : Dev nD) : Nat :=
  let c0_i32_173 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_127 : BitVec 32 := 3#32
  let v212 : BitVec 32 := Scalar.addi v2 c3_i32_127
  let c4_i32_128 : BitVec 32 := 4#32
  let v213 : BitVec 32 := Scalar.remsi v212 c4_i32_128
  let c1_i32_172 : BitVec 32 := 1#32
  let v285 : BitVec 32 := Scalar.muli v213 c1_i32_172
  let v286 : BitVec 32 := Scalar.addi c0_i32_173 v285
  v286.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_178 : BitVec 32 := 512#32
  let v295 : BitVec 32 := Scalar.muli v2 c512_i32_178
  let v296 : Index := Scalar.indexCast v295
  let c0_179 : Index := 0#32
  ![v296.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_180 : BitVec 32 := 512#32
  let v299 : BitVec 32 := Scalar.muli v2 c512_i32_180
  let v300 : Index := Scalar.indexCast v299
  let c0_181 : Index := 0#32
  ![v300.toNat, 0]
def k0_dev7 (d0 : Dev nD) : Nat :=
  let c0_i32_291_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_287_r0 : BitVec 32 := 1#32
  let v426_r0 : BitVec 32 := Scalar.addi v2 c1_i32_287_r0
  let c4_i32_288_r0 : BitVec 32 := 4#32
  let v427_r0 : BitVec 32 := Scalar.remsi v426_r0 c4_i32_288_r0
  let c1_i32_290_r0 : BitVec 32 := 1#32
  let v428_r0 : BitVec 32 := Scalar.muli v427_r0 c1_i32_290_r0
  let v429_r0 : BitVec 32 := Scalar.addi c0_i32_291_r0 v428_r0
  v429_r0.toNat
def k0_dev8 (d0 : Dev nD) : Nat :=
  let c0_i32_296_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_292_r0 : BitVec 32 := 2#32
  let v430_r0 : BitVec 32 := Scalar.addi v2 c2_i32_292_r0
  let c4_i32_293_r0 : BitVec 32 := 4#32
  let v431_r0 : BitVec 32 := Scalar.remsi v430_r0 c4_i32_293_r0
  let c1_i32_295_r0 : BitVec 32 := 1#32
  let v432_r0 : BitVec 32 := Scalar.muli v431_r0 c1_i32_295_r0
  let v433_r0 : BitVec 32 := Scalar.addi c0_i32_296_r0 v432_r0
  v433_r0.toNat
def k0_dev9 (d0 : Dev nD) : Nat :=
  let c0_i32_301_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_297_r0 : BitVec 32 := 3#32
  let v434_r0 : BitVec 32 := Scalar.addi v2 c3_i32_297_r0
  let c4_i32_298_r0 : BitVec 32 := 4#32
  let v435_r0 : BitVec 32 := Scalar.remsi v434_r0 c4_i32_298_r0
  let c1_i32_300_r0 : BitVec 32 := 1#32
  let v436_r0 : BitVec 32 := Scalar.muli v435_r0 c1_i32_300_r0
  let v437_r0 : BitVec 32 := Scalar.addi c0_i32_301_r0 v436_r0
  v437_r0.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x512 : Shape := ⟨2, ![2048, 512]⟩
abbrev S512x16 : Shape := ⟨2, ![512, 16]⟩
abbrev S2048x1 : Shape := ⟨2, ![2048, 1]⟩
abbrev S16x512x1024 : Shape := ⟨3, ![16, 512, 1024]⟩
abbrev S512x1024 : Shape := ⟨2, ![512, 1024]⟩
abbrev S2048x16 : Shape := ⟨2, ![2048, 16]⟩
abbrev S_ : Shape := ⟨0, ![]⟩
abbrev S2048 : Shape := ⟨1, ![2048]⟩
abbrev S2048x1024 : Shape := ⟨2, ![2048, 1024]⟩
abbrev S2048x16x1024 : Shape := ⟨3, ![2048, 16, 1024]⟩
abbrev S16 : Shape := ⟨1, ![16]⟩
abbrev S1x16 : Shape := ⟨2, ![1, 16]⟩
abbrev S2048x16x1 : Shape := ⟨3, ![2048, 16, 1]⟩

abbrev nBuf : Space → Nat
  | .hbm => 36
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x16, .f32⟩
  | .hbm, ⟨2, _⟩ => ⟨S2048x1, .i32⟩
  | .hbm, ⟨3, _⟩ => ⟨S16x512x1024, .f32⟩
  | .hbm, ⟨4, _⟩ => ⟨S512x1024, .f32⟩
  | .hbm, ⟨5, _⟩ => ⟨S2048x16, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x16, .f32⟩
  | .hbm, ⟨10, _⟩ => ⟨S2048x16, .f32⟩
  | .hbm, ⟨11, _⟩ => ⟨S2048x16, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x16, .f32⟩
  | .hbm, ⟨16, _⟩ => ⟨S2048x16, .f32⟩
  | .hbm, ⟨17, _⟩ => ⟨S2048x1024, .f32⟩
  | .hbm, ⟨18, _⟩ => ⟨S2048x16x1024, .f32⟩
  | .hbm, ⟨19, _⟩ => ⟨S16, .i32⟩
  | .hbm, ⟨20, _⟩ => ⟨S1x16, .i32⟩
  | .hbm, ⟨21, _⟩ => ⟨S2048x16, .i32⟩
  | .hbm, ⟨22, _⟩ => ⟨S2048x16, .i32⟩
  | .hbm, ⟨23, _⟩ => ⟨S2048x16, .i1⟩
  | .hbm, ⟨24, _⟩ => ⟨S2048x16x1, .i1⟩
  | .hbm, ⟨25, _⟩ => ⟨S2048x16x1, .f32⟩
  | .hbm, ⟨26, _⟩ => ⟨S2048x16x1024, .f32⟩
  | .hbm, ⟨27, _⟩ => ⟨S2048x16x1024, .f32⟩
  | .hbm, ⟨28, _⟩ => ⟨S_, .f32⟩
  | .hbm, ⟨29, _⟩ => ⟨S_, .f32⟩
  | .hbm, ⟨30, _⟩ => ⟨S2048x16x1024, .i1⟩
  | .hbm, ⟨31, _⟩ => ⟨S2048x16x1024, .f32⟩
  | .hbm, ⟨32, _⟩ => ⟨S2048x16x1024, .f32⟩
  | .hbm, ⟨33, _⟩ => ⟨S_, .f32⟩
  | .hbm, ⟨34, _⟩ => ⟨S2048x1024, .f32⟩
  | .hbm, ⟨35, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Proof.ProtocolKernelIdeal.lean ====
/-
# The exchange protocol of the four devices

Four devices each compute a partial result for every chunk of tokens. Device `c` keeps its own chunk and sends the
partial results for the chunks of devices `c + 1`, `c + 2`, `c + 3` to those devices. Before any copy all devices meet at a
barrier semaphore, and after the last copy they meet at a second one.

This module fixes the vocabulary: the neighbours, the memory slots, the eight semaphores of a device, what each
semaphore's units carry (the schedule), what a device owes at launch, and the levels that order the waits.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The exchange's ghost state: rounds whose duties are named by the three steps. -/
abbrev UX : Type := URounds (GSem nD τ sig) (Fin 3)
/-- The whole ghost state: the pipeline's and the exchange's. -/
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Neighbours -/

set_option backward.proofsInPublic true in
/-- The device `j + 1` places after `c`. -/
def fwd (j : Fin 3) (c : Dev nD) : Dev nD := ⟨(c.val + (j.val + 1)) % 4, Nat.mod_lt _ (by decide)⟩

/-- Going `j + 1` places and then the opposite step comes back. -/
theorem fwd_rev_fwd (j : Fin 3) (c : Dev nD) : fwd j.rev (fwd j c) = c := by revert j c; decide
theorem fwd_fwd_rev (j : Fin 3) (c : Dev nD) : fwd j (fwd j.rev c) = c := by revert j c; decide

/-- The devices that the kernel addresses, in the order of its signals and copies. -/
theorem dev1_eq (c : Dev nD) : (⟨k0_dev1 c, k0_dev1_lt c⟩ : Dev nD) = fwd 0 c := Fin.ext (k0_dev1_eq c)
theorem dev2_eq (c : Dev nD) : (⟨k0_dev2 c, k0_dev2_lt c⟩ : Dev nD) = fwd 1 c := Fin.ext (k0_dev2_eq c)
theorem dev3_eq (c : Dev nD) : (⟨k0_dev3 c, k0_dev3_lt c⟩ : Dev nD) = fwd 2 c := Fin.ext (k0_dev3_eq c)
theorem dev4_eq (c : Dev nD) : (⟨k0_dev4 c, k0_dev4_lt c⟩ : Dev nD) = fwd 0 c := Fin.ext (k0_dev4_eq c)
theorem dev5_eq (c : Dev nD) : (⟨k0_dev5 c, k0_dev5_lt c⟩ : Dev nD) = fwd 1 c := Fin.ext (k0_dev5_eq c)
theorem dev6_eq (c : Dev nD) : (⟨k0_dev6 c, k0_dev6_lt c⟩ : Dev nD) = fwd 2 c := Fin.ext (k0_dev6_eq c)
theorem dev7_eq (c : Dev nD) : (⟨k0_dev7 c, k0_dev7_lt c⟩ : Dev nD) = fwd 0 c := Fin.ext (k0_dev7_eq c)
theorem dev8_eq (c : Dev nD) : (⟨k0_dev8 c, k0_dev8_lt c⟩ : Dev nD) = fwd 1 c := Fin.ext (k0_dev8_eq c)
theorem dev9_eq (c : Dev nD) : (⟨k0_dev9 c, k0_dev9_lt c⟩ : Dev nD) = fwd 2 c := Fin.ext (k0_dev9_eq c)

/-! ## Buffers and slots -/

abbrev xM : Memref sig .tc .vmem S2048x512 .f32 := Memref.whole cc0_stg0_0
abbrev gM : Memref sig .tc .vmem S512x16 .f32 := Memref.whole cc0_stg1_0
abbrev iM : Memref sig .tc .vmem S2048x1 .i32 := Memref.whole cc0_stg2_0
abbrev wM : Memref sig .tc .vmem S4x512x1024 .f32 := Memref.whole cc0_stg3_0
abbrev hM : Memref sig .tc .vmem S512x1024 .f32 := Memref.whole cc0_stg4_0
abbrev oM : Memref sig .tc .vmem S512x1024 .f32 := Memref.whole cc0_stg5_0
abbrev pM : Memref sig .tc .vmem S2048x16 .f32 := Memref.whole cc0_scratch0
abbrev bM : Memref sig .tc .vmem S4x512x1024 .bf16 := Memref.whole cc0_scratch1
abbrev sM : Memref sig .tc .vmem S3x512x1024 .bf16 := Memref.whole cc0_scratch2
abbrev rM : Memref sig .tc .vmem S3x512x1024 .bf16 := Memref.whole cc0_scratch3

set_option backward.proofsInPublic true in
theorem slot_inb (j : Fin 3) : ∀ a, (![j.val, 0, 0] : Fin 3 → ℕ) a + S1x512x1024.size a ≤ S3x512x1024.size a := by
  revert j; decide
set_option backward.proofsInPublic true in
theorem sem_inb (j : Fin 3) : ∀ a, (![j.val] : Fin 1 → ℕ) a + S1.size a ≤ S3.size a := by
  revert j; decide

/-- Slot `j` of a buffer of three slots. -/
abbrev slotR (j : Fin 3) : Rect S3x512x1024 := Rect.unit (s := S3x512x1024) ![j.val, 0, 0] S1x512x1024.size (slot_inb j)
/-- The memrefs of send slot `j` and of receive slot `j`. -/
abbrev sSl (j : Fin 3) : Memref sig .tc .vmem S512x1024 .bf16 :=
  (sM.slice (slotR j) (fun _ => rfl)).squeeze S512x1024 squeezes_S1x512x1024_S512x1024
abbrev rSl (j : Fin 3) : Memref sig .tc .vmem S512x1024 .bf16 :=
  (rM.slice (slotR j) (fun _ => rfl)).squeeze S512x1024 squeezes_S1x512x1024_S512x1024

/-- Device `c`'s send slot `j` and receive slot `j`, holding what `f` says there. -/
def sPts (j : Fin 3) (c : Dev nD) (f : Buf (Elt F) (sM.view.loc (c : Thread nD τ))) : sProp 𝕄 :=
  (sSl j).view.loc (c : Thread nD τ) ↦[(sSl j).view.set]{fullShare} f
def rPts (j : Fin 3) (c : Dev nD) (f : Buf (Elt F) (rM.view.loc (c : Thread nD τ))) : sProp 𝕄 :=
  (rSl j).view.loc (c : Thread nD τ) ↦[(rSl j).view.set]{fullShare} f

instance sPts_storable (j : Fin 3) (c : Dev nD) (f) : BI.Storable (upEmb : UEmb _ 𝕄) (sPts (F := F) j c f) := by unfold sPts; infer_instance
instance rPts_storable (j : Fin 3) (c : Dev nD) (f) : BI.Storable (upEmb : UEmb _ 𝕄) (rPts (F := F) j c f) := by unfold rPts; infer_instance

/-! ## Semaphores -/

abbrev barS : Sem sig := (SemArray.scalar (sig.barrier 0 rfl) : Sems sig S_).sem
abbrev endS : Sem sig := (cc0_scoped0 : Sems sig S_).sem
abbrev sendS (j : Fin 3) : DmaSem sig :=
  ((cc0_scratch4.slice (Rect.unit (s := S3) ![j.val] S1.size (sem_inb j))).squeeze S_ squeezes_S1_S_ : DmaSems sig S_).sem
abbrev recvS (j : Fin 3) : DmaSem sig :=
  ((cc0_scratch5.slice (Rect.unit (s := S3) ![j.val] S1.size (sem_inb j))).squeeze S_ squeezes_S1_S_ : DmaSems sig S_).sem

/-- The eight semaphores: the barrier (0), the sends (1–3), the receives (4–6), the second barrier (7). -/
abbrev csem : Fin 8 → SemLoc sig
  | 0 => .reg barS
  | 1 => .dma (sendS 0) | 2 => .dma (sendS 1) | 3 => .dma (sendS 2)
  | 4 => .dma (recvS 0) | 5 => .dma (recvS 1) | 6 => .dma (recvS 2)
  | 7 => .reg endS
/-- The kernel's own seven, without the barrier. -/
abbrev osem : Fin 7 → SemLoc sig := fun k => csem k.succ
abbrev kcell (p : Dev nD × Fin 8) : GSem nD τ sig := ((p.1 : Thread nD τ), csem p.2)

/-- The numbers of send semaphore `j` and of receive semaphore `j` among the eight. -/
abbrev kS : Fin 3 → Fin 8 | 0 => 1 | 1 => 2 | 2 => 3
abbrev kR : Fin 3 → Fin 8 | 0 => 4 | 1 => 5 | 2 => 6

/-- Which of the eight a semaphore is. -/
def kindOf (sm : SemLoc sig) : Option (Fin 8) := (List.finRange 8).find? fun k => csem k = sm
theorem kindOf_csem (k : Fin 8) : kindOf (csem k) = some k := by revert k; decide
theorem csem_injective : Function.Injective csem := fun a b h => by
  have := congrArg kindOf h
  rw [kindOf_csem, kindOf_csem] at this
  exact Option.some.inj this
theorem kcell_injective : Function.Injective (kcell : Dev nD × Fin 8 → GSem nD τ sig) := by
  rintro ⟨c, k⟩ ⟨c', k'⟩ h
  have h1 : c = c' := congrArg (fun g : GSem nD τ sig => g.1.1) h
  have h2 : k = k' := csem_injective (congrArg Prod.snd h)
  rw [h1, h2]
theorem kcell_eq_iff {p q : Dev nD × Fin 8} : Iff (kcell p = kcell q) (p = q) := kcell_injective.eq_iff

/-- The credit of one slot's copy. -/
abbrev N : ℕ := (rSl 0).view.dmaCredit
theorem N_pos : 0 < N := View.dmaCredit_pos _ (by decide)
theorem credit_slot (j : Fin 3) : (rSl j).view.dmaCredit = N := by fin_cases j <;> rfl
theorem credit_send (j : Fin 3) : (sSl j).view.dmaCredit = N := by fin_cases j <;> rfl

end Cert.KernelIdealProof

end
-- ==== Proof.ContentsKernelIdeal.lean ====
/-
# What the buffers hold

The contents that the kernel computes, each as the kernel's own expression over what it read: the routed
probabilities, the weights as narrowed, the three partial results a device sends, and its result block.
-/
module

public import proofs.«01_k».proof.Proof.ProtocolKernelIdeal

@[expose] public section

noncomputable section

namespace Cert.KernelIdealProof

open Cert.KernelIdeal Cert.KernelIdeal.Gen

open Idealize.ShloMosaic
open Idealize.ShloMosaic.TcCoe
open Idealize.SL Idealize.SL.Sem

variable {F : FTy → Type} [FloatOps F]

/-! ## The pieces that are read -/

/-- A device's number as the kernel computes it. -/
abbrev vid (c : Dev nD) : BitVec 32 := Scalar.remsi (Scalar.divsi (Dev.word c) 1#32) 4#32
/-- The expert number of every lane. -/
abbrev lanes : IVec S2048x16 32 := iota .tc S2048x16 32 [1] iota_S2048x16_d1_w32

/-- The rows of the tokens and of the routed probabilities that steps 1, 2, 3 read, and a device's own. -/
abbrev xR1 (c : Dev nD) : Rect S2048x512 := Rect.unit (s := S2048x512) (k0_off1 c 1#32) S512x512.size (k0_off1_inb c 0)
abbrev xR2 (c : Dev nD) : Rect S2048x512 := Rect.unit (s := S2048x512) (k0_off1 c 2#32) S512x512.size (k0_off1_inb c 1)
abbrev xR3 (c : Dev nD) : Rect S2048x512 := Rect.unit (s := S2048x512) (k0_off1 c 3#32) S512x512.size (k0_off1_inb c 2)
abbrev xR0 (c : Dev nD) : Rect S2048x512 := Rect.unit (s := S2048x512) (k0_off3 c) S512x512.size (k0_off3_inb c)
abbrev pR1 (c : Dev nD) : Rect S2048x16 := Rect.unit (s := S2048x16) (k0_off2 c 1#32) S512x16.size (k0_off2_inb c 0)
abbrev pR2 (c : Dev nD) : Rect S2048x16 := Rect.unit (s := S2048x16) (k0_off2 c 2#32) S512x16.size (k0_off2_inb c 1)
abbrev pR3 (c : Dev nD) : Rect S2048x16 := Rect.unit (s := S2048x16) (k0_off2 c 3#32) S512x16.size (k0_off2_inb c 2)
abbrev pR0 (c : Dev nD) : Rect S2048x16 := Rect.unit (s := S2048x16) (k0_off4 c) S512x16.size (k0_off4_inb c)
/-- The four local experts' weights. -/
abbrev bR0 : Rect S4x512x1024 := Rect.unit (s := S4x512x1024) ![0, 0, 0] S1x512x1024.size inb_S4x512x1024_S1x512x1024_0_0_0
abbrev bR1 : Rect S4x512x1024 := Rect.unit (s := S4x512x1024) ![1, 0, 0] S1x512x1024.size inb_S4x512x1024_S1x512x1024_1_0_0
abbrev bR2 : Rect S4x512x1024 := Rect.unit (s := S4x512x1024) ![2, 0, 0] S1x512x1024.size inb_S4x512x1024_S1x512x1024_2_0_0
abbrev bR3 : Rect S4x512x1024 := Rect.unit (s := S4x512x1024) ![3, 0, 0] S1x512x1024.size inb_S4x512x1024_S1x512x1024_3_0_0

/-- Reading rows of the tokens, of the routed probabilities, of the weights. -/
abbrev rdX (r : Rect S2048x512) (X : Vec F S2048x512 .f32) : Vec F r.shape .f32 := xM.view.readAt (Elt F) r.toLoadRect X
abbrev rdP (r : Rect S2048x16) (P : Vec F S2048x16 .f32) : Vec F r.shape .f32 := pM.view.readAt (Elt F) r.toLoadRect P
abbrev rdB (r : Rect S4x512x1024) (B : Vec F S4x512x1024 .bf16) : Vec F r.shape .bf16 := bM.view.readAt (Elt F) r.toLoadRect B

/-! ## The partial results -/

/-- The routed probabilities: each token's probability at its chosen expert, zero elsewhere. -/
def routedOf (X : Vec F S2048x512 .f32) (G : Vec F S512x16 .f32) (I : Vec F S2048x1 .i32) : Vec F S2048x16 .f32 :=
  k0_pay3 (k0_pay1 X G) (k0_pay2 X G) I

section Partial
variable (c : Dev nD) (X : Vec F S2048x512 .f32) (P : Vec F S2048x16 .f32) (B : Vec F S4x512x1024 .bf16)

/-- What step 1 sends. -/
def part0Of : Vec F S1x512x1024 .bf16 :=
  k0_pay10 (k0_pay5 (rdX (xR1 c) X)) (rdP (pR1 c) P)
    (k0_pay8 (vid c) (k0_pay5 (rdX (xR1 c) X)) (rdP (pR1 c) P) k0_pay6 (k0_pay7 (vid c) (rdX (xR1 c) X) (rdP (pR1 c) P))
      (rdB bR0 B) (rdB bR1 B) (rdB bR2 B))
    (k0_pay9 (vid c) k0_pay6) (rdB bR3 B)
/-- What step 2 sends. -/
def part1Of : Vec F S1x512x1024 .bf16 :=
  k0_pay15 (vid c) (k0_pay11 (rdX (xR2 c) X)) (rdP (pR2 c) P) (k0_pay12 lanes)
    (k0_pay13 (vid c) lanes (k0_pay11 (rdX (xR2 c) X)) (rdP (pR2 c) P) (rdB bR0 B) (rdB bR1 B))
    (k0_pay14 (vid c) lanes (rdP (pR2 c) P)) (rdB bR2 B) (rdB bR3 B)
/-- What step 3 sends. -/
def part2Of : Vec F S1x512x1024 .bf16 :=
  k0_pay21 (vid c) (k0_pay16 (rdX (xR3 c) X)) (rdP (pR3 c) P) (k0_pay17 lanes)
    (k0_pay18 (vid c) lanes (rdX (xR3 c) X) (rdP (pR3 c) P) (rdB bR0 B))
    (k0_pay19 (vid c) lanes (rdX (xR3 c) X) (rdP (pR3 c) P)) (k0_pay20 (rdB bR1 B)) (rdB bR2 B) (rdB bR3 B)
/-- A device's own contribution to its chunk but the last expert's, -/
def own012Of : Vec F S512x1024 .f32 :=
  k0_pay27 (vid c) (k0_pay22 (rdX (xR0 c) X)) (rdP (pR0 c) P) (k0_pay23 lanes)
    (k0_pay24 (vid c) lanes (rdX (xR0 c) X) (rdP (pR0 c) P) (rdB bR0 B)) (k0_pay25 (vid c) lanes) k0_pay26 (rdB bR1 B) (rdB bR2 B)
/-- and the last expert's. -/
def own3Of : Vec F S512x1024 .f32 :=
  k0_pay28 (vid c) (k0_pay22 (rdX (xR0 c) X)) (rdP (pR0 c) P) (k0_pay23 lanes) (rdB bR3 B)
/-- The result block, given the shared weights and the three received partial results. -/
def resultOf (H : Vec F S512x1024 .f32) (r0 r1 r2 : Vec F S1x512x1024 .bf16) : Vec F S512x1024 .f32 :=
  k0_pay30 (k0_pay29 (own012Of c X P B) (own3Of c X P B) (rdX (xR0 c) X) H r0) r1 r2

end Partial

/-! ## At a launch memory -/

section AtLaunch
variable (m : (ℓ : Loc nD τ sig) → Buf (Elt F) ℓ) (ρ : Dev nD → PrngReg)

/-- The staged inputs of device `c`: tokens, router weights, chosen experts, local experts' weights, shared weights. -/
def xIn (c : Dev nD) : Vec F S2048x512 .f32 := (win0_0.blk (0 : Fin 1)).view.read (Elt F) ((s₀ m ρ).mem ((c : Thread nD τ).loc main_arg0))
def gIn (c : Dev nD) : Vec F S512x16 .f32 := (win0_1.blk (0 : Fin 1)).view.read (Elt F) ((s₀ m ρ).mem ((c : Thread nD τ).loc main_arg1))
def iIn (c : Dev nD) : Vec F S2048x1 .i32 := (win0_2.blk (0 : Fin 1)).view.read (Elt F) ((s₀ m ρ).mem ((c : Thread nD τ).loc main_arg2))
def wIn (c : Dev nD) : Vec F S4x512x1024 .f32 := (win0_3.blk (0 : Fin 1)).view.read (Elt F) ((s₀ m ρ).mem ((c : Thread nD τ).loc main_arg3))
def hIn (c : Dev nD) : Vec F S512x1024 .f32 := (win0_4.blk (0 : Fin 1)).view.read (Elt F) ((s₀ m ρ).mem ((c : Thread nD τ).loc main_arg4))

/-- Device `c`'s routed probabilities and narrowed weights. -/
def pAt (c : Dev nD) : Vec F S2048x16 .f32 := routedOf (xIn m ρ c) (gIn m ρ c) (iIn m ρ c)
def bAt (c : Dev nD) : Vec F S4x512x1024 .bf16 := k0_pay4 (wIn m ρ c)

/-- What device `c`'s step `j` sends. -/
def sentAt (j : Fin 3) (c : Dev nD) : Vec F S1x512x1024 .bf16 :=
  match j with
  | 0 => part0Of c (xIn m ρ c) (pAt m ρ c) (bAt m ρ c)
  | 1 => part1Of c (xIn m ρ c) (pAt m ρ c) (bAt m ρ c)
  | 2 => part2Of c (xIn m ρ c) (pAt m ρ c) (bAt m ρ c)

/-- Device `c`'s result block: slot `j` holds what the device `j + 1` places before it sent. -/
def outAt (c : Dev nD) : Vec F S512x1024 .f32 :=
  resultOf c (xIn m ρ c) (pAt m ρ c) (bAt m ρ c) (hIn m ρ c)
    (sentAt m ρ 0 (fwd (Fin.rev 0) c)) (sentAt m ρ 1 (fwd (Fin.rev 1) c)) (sentAt m ρ 2 (fwd (Fin.rev 2) c))

end AtLaunch

end Cert.KernelIdealProof

end
-- ==== Proof.ScheduleKernelIdeal.lean ====
/-
# The schedule of the exchange

What the units of each semaphore carry, what a device owes at launch, and the levels that order the waits:

* the barrier semaphore of device `c` takes one unit from each other device; the unit from the device `j + 1` places
  after `c` brings that device's receive slot `j`, which is the slot that `c` will write;
* the unit of a receive semaphore brings the slot, holding what was sent;
* the unit of a send semaphore brings the send slot back;
* the second barrier's units bring nothing.
-/
module

public import proofs.«01_k».proof.Proof.ContentsKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Payloads -/

/-- To `c`, from the device `d + 1` places on: its receive slot `d`, and that its receive semaphore is at its round. -/
def barPay (c : Dev nD) (d : Fin 3) : sProp 𝕄 := iprop((∃ f, rPts d (fwd d c) f) ∗ reached ER (kcell (fwd d c, kR d)) 0)
/-- Receive slot `j`, holding what was sent to it. -/
def recvPay (j : Fin 3) (c : Dev nD) : sProp 𝕄 :=
  iprop(∃ f, ⌜rM.view.readAt (Elt F) (slotR j).toLoadRect f = sentAt m ρ j (fwd j.rev c)⌝ ∗ rPts j c f)
/-- Send slot `j`, back. -/
def sendPay (j : Fin 3) (c : Dev nD) : sProp 𝕄 := iprop(∃ f, sPts j c f)

/-- The payload by the semaphore's number. -/
def payOf (k : Fin 8) (c : Dev nD) (d : Fin 3) : sProp 𝕄 :=
  match k with
  | 0 => barPay c d
  | 1 => sendPay 0 c | 2 => sendPay 1 c | 3 => sendPay 2 c
  | 4 => recvPay m ρ 0 c | 5 => recvPay m ρ 1 c | 6 => recvPay m ρ 2 c
  | 7 => iprop(emp)
/-- The duties by the semaphore's number: three at the barriers, one at a copy's semaphores. -/
def dutiesOf : Fin 8 → Finset (Fin 3)
  | 0 => Finset.univ | 7 => Finset.univ | _ => {0}
/-- The amount of one duty. -/
def amountOf : Fin 8 → ℕ
  | 0 => 1 | 7 => 1 | _ => N
theorem amountOf_pos (k : Fin 8) : 0 < amountOf k := by
  fin_cases k <;> first | exact Nat.one_pos | exact N_pos

instance payOf_storable (k : Fin 8) (c : Dev nD) (d : Fin 3) : BI.Storable (upEmb : UEmb _ 𝕄) (payOf (F := F) m ρ k c d) := by
  fin_cases k <;> (dsimp only [payOf]; first | (unfold barPay; infer_instance) | (unfold sendPay; infer_instance) | (unfold recvPay; infer_instance) | infer_instance)

/-- The schedule: one round. -/
def xRd : Rounds.Schedule (GSem nD τ sig) (Fin 3) 𝕄 where
  duties g r := if r = 0 ∧ g.1.2 = .tc then (kindOf g.2).elim ∅ dutiesOf else ∅
  unitless _ := False
  amount g _ _ := (kindOf g.2).elim 1 amountOf
  payload g _ d := (kindOf g.2).elim iprop(emp) fun k => payOf m ρ k g.1.1 d
  amount_pos g _ _ _ := by
    cases h : kindOf g.2 with
    | none => exact Nat.one_pos
    | some k => exact amountOf_pos k

instance xRd_storable (g : GSem nD τ sig) (r : ℕ) (d : Fin 3) : BI.Storable (upEmb : UEmb _ 𝕄) ((xRd (F := F) m ρ).payload g r d) := by
  show BI.Storable upEmb ((kindOf g.2).elim iprop(emp) fun k => payOf m ρ k g.1.1 d)
  cases kindOf g.2 with
  | none => show BI.Storable upEmb iprop(emp); infer_instance
  | some k => exact payOf_storable m ρ k g.1.1 d

section Tables
variable (c : Dev nD) (k : Fin 8)

theorem duties_at : (xRd (F := F) m ρ).duties (kcell (c, k)) 0 = dutiesOf k := by
  dsimp only [xRd]; rw [if_pos ⟨rfl, rfl⟩, kindOf_csem]; rfl
theorem duties_later (g : GSem nD τ sig) : ∀ r, 1 ≤ r → (xRd (F := F) m ρ).duties g r = ∅ :=
  fun r hr => by dsimp only [xRd]; rw [if_neg fun h => by omega]
theorem amount_at (d : Fin 3) : (xRd (F := F) m ρ).amount (kcell (c, k)) 0 d = amountOf k := by
  dsimp only [xRd]; rw [kindOf_csem]; rfl
theorem payload_at (d : Fin 3) : (xRd (F := F) m ρ).payload (kcell (c, k)) 0 d = payOf m ρ k c d := by
  dsimp only [xRd]; rw [kindOf_csem]; rfl
/-- What a semaphore's round brings in all. -/
theorem expect_at : (xRd (F := F) m ρ).expect (kcell (c, k)) 0 = (dutiesOf k).card * amountOf k := by
  unfold Schedule.expect Schedule.amountOf
  rw [duties_at, Finset.sum_congr rfl fun d _ => amount_at m ρ c k d, Finset.sum_const, smul_eq_mul]
/-- The payloads of a whole round. -/
theorem rest_at : bigSep ((xRd (F := F) m ρ).duties (kcell (c, k)) 0 \ ∅) (fun d => (xRd (F := F) m ρ).payload (kcell (c, k)) 0 d)
    = bigSep (dutiesOf k) (payOf m ρ k c) := by
  rw [Finset.sdiff_empty, duties_at]
  exact bigSep_congr fun d _ => payload_at m ρ c k d
end Tables

/-- The barrier's round brings the three receive slots that `c` will write, -/
theorem pays_bar (c : Dev nD) : bigSep (dutiesOf 0) (payOf (F := F) m ρ 0 c) = iprop(barPay c 0 ∗ barPay c 1 ∗ barPay c 2) :=
  bigSep_univ_eq_bigSepL [0, 1, 2] (by decide) (by decide) _
/-- a receive's round its slot with what was sent, -/
theorem pays_recv (j : Fin 3) (c : Dev nD) : bigSep (dutiesOf (kR j)) (payOf (F := F) m ρ (kR j) c) = recvPay m ρ j c := by
  fin_cases j <;> exact bigSep_singleton
/-- and a send's round the send slot. -/
theorem pays_send (j : Fin 3) (c : Dev nD) : bigSep (dutiesOf (kS j)) (payOf (F := F) m ρ (kS j) c) = sendPay j c := by
  fin_cases j <;> exact bigSep_singleton

/-! ## What a device owes -/

/-- The debts of a list of cells. -/
def debts : List ((Dev nD × Fin 8) × ℕ) → CellTallies nD τ sig Unit
  | [] => 0
  | (p, n) :: l => debts l + tallyAt (kcell p) () n
/-- What device `c` owes at launch, in the order in which it pays: a unit to each other device's barrier, a slot's credit to
    each receive semaphore that it copies to, a unit to each second barrier. -/
def dues (c : Dev nD) : List ((Dev nD × Fin 8) × ℕ) :=
  [((fwd 0 c, 0), 1), ((fwd 1 c, 0), 1), ((fwd 2 c, 0), 1), ((fwd 0 c, 4), N), ((fwd 1 c, 5), N), ((fwd 2 c, 6), N),
    ((fwd 0 c, 7), 1), ((fwd 1 c, 7), 1), ((fwd 2 c, 7), 1)]
/-- What is left after the first `n` payments. -/
abbrev left (n : ℕ) (c : Dev nD) : CellTallies nD τ sig Unit := debts ((dues c).drop n)

theorem debts_apply (l : List ((Dev nD × Fin 8) × ℕ)) (p : Dev nD × Fin 8) :
    debts l (kcell p) () = (l.map fun x => if x.1 = p then x.2 else 0).sum := by
  induction l with
  | nil => rfl
  | cons x l ih =>
    obtain ⟨q, n⟩ := x
    rw [debts, Pi.add_apply, Finsupp.add_apply, ih, tallyAt_apply, List.map_cons, List.sum_cons, Nat.add_comm]
    congr 1
    by_cases h : q = p
    · subst h; rw [if_pos ⟨rfl, rfl⟩, if_pos rfl]
    · rw [if_neg (fun h' => h (kcell_injective h'.1).symm), if_neg h]

theorem debts_pos {l : List ((Dev nD × Fin 8) × ℕ)} {g : GSem nD τ sig} {u : Unit} (h : 0 < debts l g u) :
    ∃ x ∈ l, g = kcell x.1 := by
  induction l with
  | nil => exact absurd h (Nat.lt_irrefl 0)
  | cons x l ih =>
    obtain ⟨q, n⟩ := x
    rw [debts, Pi.add_apply, Finsupp.add_apply, tallyAt_apply] at h
    by_cases hq : g = kcell q ∧ u = ()
    · exact ⟨_, List.mem_cons_self, hq.1⟩
    · rw [if_neg hq, Nat.add_zero] at h
      obtain ⟨y, hy, e⟩ := ih h
      exact ⟨y, List.mem_cons_of_mem _ hy, e⟩

/-! ## Levels -/

def L (g : GSem nD τ sig) : Finset Unit := if g.1.2 = .tc then {()} else ∅
/-- The barrier at 1, the receives at 2, the second barrier at 3, all else at 0. -/
def lvOf : Fin 8 → ℕ
  | 0 => 1 | 4 => 2 | 5 => 2 | 6 => 2 | 7 => 3 | _ => 0
def lv (g : GSem nD τ sig) (_ : Unit) : ℕ := (kindOf g.2).elim 0 lvOf

theorem L_of_ne (g : GSem nD τ sig) (h : g.1.2 ≠ .tc) : L g = ∅ := if_neg h
theorem L_tc (c : Dev nD) (sm : SemLoc sig) : L ((c : Thread nD τ), sm) = {()} := if_pos rfl
theorem lv_at (p : Dev nD × Fin 8) (u : Unit) : lv (kcell p) u = lvOf p.2 := by unfold lv; rw [kindOf_csem]; rfl

/-- A device may wait at a semaphore while everything it owes lies at higher levels. -/
theorem mayWait_of (c : Dev nD) (sm : SemLoc sig) (l : List ((Dev nD × Fin 8) × ℕ))
    (h : ∀ x ∈ l, (kindOf sm).elim 0 lvOf < lvOf x.1.2) :
    (levAts L lv : sProp 𝕄) ⊢ MayWait (c : Thread nD τ) sm () (debts l) :=
  MayOwe.of_cut (L := L) (lev := lv) ((kindOf sm).elim 0 lvOf)
    (fun p hp => by rw [Finset.mem_singleton.mp hp, L_tc]; exact Finset.mem_singleton_self _)
    (fun g u hg => by obtain ⟨x, _, rfl⟩ := debts_pos hg; exact Finset.mem_singleton_self _)
    (fun p hp => by rw [Finset.mem_singleton.mp hp]; exact le_refl _)
    (fun g u hg => by obtain ⟨x, hx, rfl⟩ := debts_pos hg; rw [lv_at]; exact h x hx)

end Cert.KernelIdealProof

end
-- ==== Proof.SlotsKernelIdeal.lean ====
/-
# The slots of the exchange buffers

The slots of the two exchange buffers, and one rule for each kind of synchronisation that the kernel performs, stated
over the schedule: the signal of the first barrier, its wait, the copy of a slot, the waits for a copy, the signal and
the wait of the second barrier, and the closing of a semaphore at the end.
-/
module

public import proofs.«01_k».proof.Proof.ScheduleKernelIdeal
public import Idealize.ShloMosaic.Lib.Ring
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Slots -/

/-- A slot's elements are the rectangle's, whichever way the slot is addressed. -/
theorem sSl_set (j : Fin 3) : (sSl j).view.set = (slotR j).set :=
  (View.set_reshape _ _).trans (View.set_slice_whole _ _)
theorem rSl_set (j : Fin 3) : (rSl j).view.set = (slotR j).set :=
  (View.set_reshape _ _).trans (View.set_slice_whole _ _)
theorem sAcc_set (j : Fin 3) : ((sM.access (slotR j) : View sig .tc _ _ _)).set ⊆ (sSl j).view.set := by
  rw [sSl_set]; exact (View.set_slice_whole _ _).le
theorem rAcc_set (j : Fin 3) : ((rM.access (slotR j) : View sig .tc _ _ _)).set ⊆ (rSl j).view.set := by
  rw [rSl_set]; exact (View.set_slice_whole _ _).le
theorem sLoad_set (j : Fin 3) : sM.view.setOn (slotR j).toLoadRect.set ⊆ (sSl j).view.set := by
  exact (View.set_slice sM.view (slotR j)).symm.le.trans (sAcc_set j)
theorem rLoad_set (j : Fin 3) : rM.view.setOn (slotR j).toLoadRect.set ⊆ (rSl j).view.set := by
  exact (View.set_slice rM.view (slotR j)).symm.le.trans (rAcc_set j)

theorem slots_disjoint (j j' : Fin 3) (h : j ≠ j') : Disjoint (slotR j).set (slotR j').set := by
  rw [Finset.disjoint_left]
  intro i hi hi'
  have h1 := (Rect.mem_set_unit.mp hi) 0
  have h2 := (Rect.mem_set_unit.mp hi') 0
  have e1 : j.val ≤ (i 0).val ∧ (i 0).val < j.val + 1 := h1
  have e2 : j'.val ≤ (i 0).val ∧ (i 0).val < j'.val + 1 := h2
  exact h (Fin.ext (by omega))
theorem slots_cover : Finset.univ.biUnion (fun j : Fin 3 => (slotR j).set) = Finset.univ := by
  rw [Finset.eq_univ_iff_forall]
  intro i
  have h0 : (i 0).val < 3 := (i 0).isLt
  have h1 : (i 1).val < 512 := (i 1).isLt
  have h2 : (i 2).val < 1024 := (i 2).isLt
  refine Finset.mem_biUnion.mpr ⟨⟨(i 0).val, h0⟩, Finset.mem_univ _, Rect.mem_set_unit.mpr fun a => ?_⟩
  fin_cases a
  · exact ⟨le_refl _, Nat.lt_succ_self _⟩
  · exact ⟨Nat.zero_le _, by show (i 1).val < 0 + 512; omega⟩
  · exact ⟨Nat.zero_le _, by show (i 2).val < 0 + 1024; omega⟩

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- The send buffer, held whole, is its three slots; -/
theorem sPts_split (c : Dev nD) (f : Buf (Elt F) ((c : Thread nD τ).loc cc0_scratch2)) :
    (((c : Thread nD τ).loc cc0_scratch2) ↦{fullShare} f : sProp 𝕄) ⊢ iprop(sPts 0 c f ∗ sPts 1 c f ∗ sPts 2 c f) := by
  rw [Ring.pointsTo_blocks (fun j : Fin 3 => (slotR j).set) slots_disjoint slots_cover f, bigSep_fin3]
  unfold sPts
  rw [sSl_set, sSl_set, sSl_set]
theorem rPts_split (c : Dev nD) (f : Buf (Elt F) ((c : Thread nD τ).loc cc0_scratch3)) :
    (((c : Thread nD τ).loc cc0_scratch3) ↦{fullShare} f : sProp 𝕄) ⊢ iprop(rPts 0 c f ∗ rPts 1 c f ∗ rPts 2 c f) := by
  rw [Ring.pointsTo_blocks (fun j : Fin 3 => (slotR j).set) slots_disjoint slots_cover f, bigSep_fin3]
  unfold rPts
  rw [rSl_set, rSl_set, rSl_set]
/-- and the three slots join to the whole buffer. -/
theorem sPts_join (c : Dev nD) (f0 f1 f2 : Buf (Elt F) (sM.view.loc (c : Thread nD τ))) :
    iprop(sPts 0 c f0 ∗ sPts 1 c f1 ∗ sPts 2 c f2) ⊢ (iprop(∃ g, ((c : Thread nD τ).loc cc0_scratch2) ↦{fullShare} g) : sProp 𝕄) := by
  refine BI.Entails.trans ?_ (Ring.pointsTo_blocks_join (ℓ := (c : Thread nD τ).loc cc0_scratch2) (fun j : Fin 3 => (slotR j).set)
    slots_disjoint slots_cover (fun j : Fin 3 => match j with | 0 => f0 | 1 => f1 | 2 => f2) f0)
  rw [bigSep_fin3]
  unfold sPts
  rw [sSl_set, sSl_set, sSl_set]
  exact BI.Entails.refl _
theorem rPts_join (c : Dev nD) (f0 f1 f2 : Buf (Elt F) (rM.view.loc (c : Thread nD τ))) :
    iprop(rPts 0 c f0 ∗ rPts 1 c f1 ∗ rPts 2 c f2) ⊢ (iprop(∃ g, ((c : Thread nD τ).loc cc0_scratch3) ↦{fullShare} g) : sProp 𝕄) := by
  refine BI.Entails.trans ?_ (Ring.pointsTo_blocks_join (ℓ := (c : Thread nD τ).loc cc0_scratch3) (fun j : Fin 3 => (slotR j).set)
    slots_disjoint slots_cover (fun j : Fin 3 => match j with | 0 => f0 | 1 => f1 | 2 => f2) f0)
  rw [bigSep_fin3]
  unfold rPts
  rw [rSl_set, rSl_set, rSl_set]
  exact BI.Entails.refl _

/-- What is stored into a send slot is what is read there. -/
theorem read_stored (j : Fin 3) (f : (cc0_scratch2 : Ref sig .tc).ty.Contents (Elt F)) (w : Vec F S1x512x1024 .bf16) :
    sM.view.readAt (Elt F) (slotR j).toLoadRect ((sM.access (slotR j) : View sig .tc _ _ _).write (Elt F) f w Finset.univ) = w :=
  View.read_write_univ _ _
/-- What lands in a receive slot is what the send slot held. -/
theorem read_landed (j : Fin 3) (fd : (cc0_scratch3 : Ref sig .tc).ty.Contents (Elt F)) (fs : (cc0_scratch2 : Ref sig .tc).ty.Contents (Elt F)) :
    rM.view.readAt (Elt F) (slotR j).toLoadRect ((rSl j).view.write (Elt F) fd ((sSl j).view.read (Elt F) fs) Finset.univ)
      = sM.view.readAt (Elt F) (slotR j).toLoadRect fs := by
  have hc : S1x512x1024.ShapeCasts S512x1024 := by decide
  have hc' : S512x1024.ShapeCasts S1x512x1024 := by decide
  have e : shapeCast S512x1024 (rM.view.readAt (Elt F) (slotR j).toLoadRect ((rSl j).view.write (Elt F) fd ((sSl j).view.read (Elt F) fs) Finset.univ)) hc
      = shapeCast S512x1024 (sM.view.readAt (Elt F) (slotR j).toLoadRect fs) hc :=
    View.read_write_univ (v := (rSl j).view) fd _
  have := congrArg (fun v => shapeCast S1x512x1024 v hc') e
  exact (shapeCast_shapeCast _ hc hc').symm.trans (this.trans (shapeCast_shapeCast _ hc hc'))

end Cert.KernelIdealProof

end
-- ==== Proof.StepsKernelIdeal.lean ====
/-
# The exchange's steps

One rule for each kind of synchronisation that the kernel performs, stated over the schedule: the signal of the first
barrier, the signal of the second, the copy of a slot, the wait at any of the semaphores, and the closing of a semaphore at
the end.
-/
module

public import proofs.«01_k».proof.Proof.SlotsKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The invariants of all the exchange's semaphores, and that each is at its round: what every device knows. -/
def records (K : Dev nD × Fin 8 → ℕ) : sProp 𝕄 :=
  iprop((bigSep Finset.univ fun p : Dev nD × Fin 8 => cellInv ER (xRd m ρ) (K p) (kcell p))
    ∗ bigSep Finset.univ fun p : Dev nD × Fin 8 => reached ER (kcell p) 0)

instance records_persistent (K : Dev nD × Fin 8 → ℕ) : BI.Persistent (records m ρ K) := by unfold records; infer_instance

theorem records_inv (K : Dev nD × Fin 8 → ℕ) (p : Dev nD × Fin 8) : records m ρ K ⊢ cellInv ER (xRd m ρ) (K p) (kcell p) := by
  have h : (bigSep Finset.univ fun p : Dev nD × Fin 8 => (cellInv ER (xRd m ρ) (K p) (kcell p) : sProp 𝕄)) ⊢ cellInv ER (xRd m ρ) (K p) (kcell p) :=
    bigSep_elim (Finset.mem_univ p)
  unfold records
  iintro ⟨H, -⟩
  iapply h; iexact H
theorem records_reached (K : Dev nD × Fin 8 → ℕ) (p : Dev nD × Fin 8) : records m ρ K ⊢ reached ER (kcell p) 0 := by
  have h : (bigSep Finset.univ fun p : Dev nD × Fin 8 => (reached ER (kcell p) 0 : sProp 𝕄)) ⊢ reached ER (kcell p) 0 :=
    bigSep_elim (Finset.mem_univ p)
  unfold records
  iintro ⟨-, H⟩
  iapply h; iexact H

/-- Device `c` owes `O`, whatever it has waited for. -/
def owesX (c : Dev nD) (O : CellTallies nD τ sig Unit) : sProp 𝕄 := iprop(∃ W : Waits sig Unit, owes (c : Thread nD τ) O W)

variable (K : Dev nD × Fin 8 → ℕ)

/-- The signal to another device's barrier: it hands over the receive slot that this device will write. -/
theorem step_bar (j : Fin 3) (c n : Dev nD) (hn : n = fwd j c) {k' : ℕ} (hk : k' = 1)
    {O₀ O : CellTallies nD τ sig Unit} (hO : O₀ = O + tallyAt (kcell (fwd j c, 0)) () 1)
    {α : Type} {Q : α → sProp 𝕄} {k : PUnit → Prog (TpuEff nD τ sig (Elt F) Λ₀ .tc) α} :
    iprop(records m ρ K ∗ owesX c O₀ ∗ dutyTok ER (kcell (fwd j c, 0)) 0 j.rev ∗ (∃ f, rPts j.rev c f))
      ⊢ iprop((owesX c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS k') k) Q) := by
  subst hn hk
  have hp : (xRd (F := F) m ρ).payload (kcell (fwd j c, 0)) 0 j.rev = iprop((∃ f, rPts j.rev c f) ∗ reached ER (kcell (c, kR j.rev)) 0) := by
    rw [payload_at]; show barPay (fwd j c) j.rev = _; unfold barPay; rw [fwd_rev_fwd]
  unfold owesX
  iintro ⟨#HR, ⟨%W, HO⟩, Ht, Hs⟩ Hk
  iapply (Rounds.wp_signal 𝒱₀ ER (xRd m ρ) (c : Thread nD τ) none (dst := (fwd j c : Thread nD τ)) (κ := K (fwd j c, 0))
      (d := j.rev) (by rw [duties_at m ρ (fwd j c) 0]; exact Finset.mem_univ _) (amount_at m ρ (fwd j c) 0 j.rev) () O hO (W := W))
    $$ [HO Ht Hs]
  · isplitr; · iapply (records_inv m ρ K (fwd j c, 0)); iexact HR
    isplitl [HO]; · iexact HO
    isplitl [Ht]; · iexact Ht
    isplitl [Hs]
    · rw [hp]
      isplitl [Hs]; · iexact Hs
      iapply (records_reached m ρ K (c, kR j.rev)); iexact HR
    · iapply (records_reached m ρ K (fwd j c, 0)); iexact HR
  iintro HO
  iapply Hk
  iexists W; iexact HO

/-- The signal to another device's second barrier. -/
theorem step_end (j : Fin 3) (c n : Dev nD) (hn : n = fwd j c) {k' : ℕ} (hk : k' = 1)
    {O₀ O : CellTallies nD τ sig Unit} (hO : O₀ = O + tallyAt (kcell (fwd j c, 7)) () 1)
    {α : Type} {Q : α → sProp 𝕄} {k : PUnit → Prog (TpuEff nD τ sig (Elt F) Λ₀ .tc) α} :
    iprop(records m ρ K ∗ owesX c O₀ ∗ dutyTok ER (kcell (fwd j c, 7)) 0 j.rev)
      ⊢ iprop((owesX c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) endS k') k) Q) := by
  subst hn hk
  have hp : (xRd (F := F) m ρ).payload (kcell (fwd j c, 7)) 0 j.rev = iprop(emp) := payload_at m ρ (fwd j c) 7 j.rev
  unfold owesX
  iintro ⟨#HR, ⟨%W, HO⟩, Ht⟩ Hk
  iapply (Rounds.wp_signal 𝒱₀ ER (xRd m ρ) (c : Thread nD τ) none (dst := (fwd j c : Thread nD τ)) (κ := K (fwd j c, 7))
      (d := j.rev) (by rw [duties_at m ρ (fwd j c) 7]; exact Finset.mem_univ _) (amount_at m ρ (fwd j c) 7 j.rev) () O hO (W := W))
    $$ [HO Ht]
  · isplitr; · iapply (records_inv m ρ K (fwd j c, 7)); iexact HR
    isplitl [HO]; · iexact HO
    isplitl [Ht]; · iexact Ht
    isplitr
    · rw [hp]; iempintro
    · iapply (records_reached m ρ K (fwd j c, 7)); iexact HR
  iintro HO
  iapply Hk
  iexists W; iexact HO

/-- A wait at semaphore `k` for its whole round, all that the device owes lying at higher levels. -/
theorem step_wait (i : Fin 8) (c : Dev nD) {w : TpuEff nD τ sig (Elt F) Λ₀ .tc PUnit} {k' : ℕ}
    (hw : ∀ Q : PUnit → sProp 𝕄, wpE (defs₀ (F := F)) 𝒱₀ (c : Thread nD τ) none Set.univ w Q = waitSpec (c : Thread nD τ) Set.univ (csem i) k' Q)
    (hk : k' = (dutiesOf i).card * amountOf i) (l : List ((Dev nD × Fin 8) × ℕ)) (hl : ∀ x ∈ l, lvOf i < lvOf x.1.2)
    {α : Type} {Q : α → sProp 𝕄} {k : PUnit → Prog (TpuEff nD τ sig (Elt F) Λ₀ .tc) α} :
    iprop(records m ρ K ∗ levAts L lv ∗ cred (tallyAt (kcell (c, i)) () k') ∗ owesX c (debts l) ∗ atPos ER (kcell (c, i)) 0 ∅ 0)
      ⊢ iprop(((owesX c (debts l) ∗ atPos ER (kcell (c, i)) 1 ∅ 0 ∗ bigSep (dutiesOf i) (payOf m ρ i c))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold owesX
  iintro ⟨#HR, #Hlev, Hc, ⟨%W, HO⟩, Hat⟩ Hk
  iapply (Rounds.wp_wait_rest_token 𝒱₀ ER (xRd m ρ) (c : Thread nD τ) none (κ := K (c, i)) hw (Set.mem_univ _) ()
      (O := debts l) (W := W) (R := 0) (m := 0) (T := ∅) (by rw [expect_at m ρ c i, Nat.zero_add]; exact hk)) $$ [Hc HO Hat]
  · isplitr; · iapply (records_inv m ρ K (c, i)); iexact HR
    isplitl [Hc]; · iexact Hc
    isplitl [HO]; · iexact HO
    isplitr
    · iapply (mayWait_of (F := F) c (csem i) l (by rw [kindOf_csem]; exact hl)); iexact Hlev
    iexact Hat
  iintro ⟨HO, Hat, -, Hpay⟩
  ihave Hp := (Entails.of_eq (rest_at m ρ c i)) $$ Hpay
  iapply Hk
  isplitl [HO]; · iexists _; iexact HO
  isplitl [Hat]; · iexact Hat
  iexact Hp

set_option maxHeartbeats 800000 in
/-- The copy of send slot `j` into the receive slot `j` of the device `j + 1` places on. -/
theorem step_send (j : Fin 3) (c n : Dev nD) (hn : n = fwd j c)
    {hsc : (rSl j : Memref sig (Dev.tc n : Thread nD τ).2.kind .vmem S512x1024 .bf16).view.ref.isScScratch = false}
    {hsrc : (sSl j).view.WordExact} {hdst : (rSl j).view.WordExact}
    {hsem : DmaTarget.Typed .vmem (.dma (recvS j)) (.remote (Dev.tc n : Thread nD τ) (rSl j) (.dma (sendS j)) hsc)}
    {O₀ O : CellTallies nD τ sig Unit} (hO : O₀ = O + tallyAt (kcell (fwd j c, kR j)) () N)
    (fs : (cc0_scratch2 : Ref sig .tc).ty.Contents (Elt F)) (hfs : sM.view.readAt (Elt F) (slotR j).toLoadRect fs = sentAt m ρ j c)
    {α : Type} {Q : α → sProp 𝕄} {k : PUnit → Prog (TpuEff nD τ sig (Elt F) Λ₀ .tc) α} :
    iprop(records m ρ K ∗ sPts j c fs ∗ (∃ f, rPts j (fwd j c) f) ∗ owesX c O₀
        ∗ dutyTok ER (kcell (c, kS j)) 0 0 ∗ dutyTok ER (kcell (fwd j c, kR j)) 0 0)
      ⊢ iprop(((cred (tallyAt (kcell (c, kS j)) () N) ∗ owesX c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSl j) (.remote (Dev.tc n : Thread nD τ) (rSl j) (.dma (sendS j)) hsc) (.dma (recvS j)) hsrc hdst hsem) k) Q) := by
  subst hn
  have hd₁ : (0 : Fin 3) ∈ (xRd (F := F) m ρ).duties (kcell (c, kS j)) 0 := by
    rw [duties_at]; fin_cases j <;> exact Finset.mem_singleton_self _
  have hd₂ : (0 : Fin 3) ∈ (xRd (F := F) m ρ).duties (kcell (fwd j c, kR j)) 0 := by
    rw [duties_at]; fin_cases j <;> exact Finset.mem_singleton_self _
  have hk₁ : (xRd (F := F) m ρ).amount (kcell (c, kS j)) 0 0 = N := by rw [amount_at]; fin_cases j <;> rfl
  have hk₂ : (xRd (F := F) m ρ).amount (kcell (fwd j c, kR j)) 0 0 = N := by rw [amount_at]; fin_cases j <;> rfl
  have hp₁ : sPts j c fs ⊢ (xRd (F := F) m ρ).payload (kcell (c, kS j)) 0 0 := by
    have e : payOf m ρ (kS j) c 0 = sendPay (F := F) j c := by fin_cases j <;> rfl
    rw [payload_at, e]; unfold sendPay
    iintro H; iexists fs; iexact H
  have hp₂ : ∀ fd, rPts j (fwd j c) ((rSl j).view.write (Elt F) fd ((sSl j).view.read (Elt F) fs) Finset.univ)
      ⊢ (xRd (F := F) m ρ).payload (kcell (fwd j c, kR j)) 0 0 := fun fd => by
    have e : payOf m ρ (kR j) (fwd j c) 0 = recvPay (F := F) m ρ j (fwd j c) := by fin_cases j <;> rfl
    rw [payload_at, e]; unfold recvPay
    iintro H; iexists ((rSl j).view.write (Elt F) fd ((sSl j).view.read (Elt F) fs) Finset.univ)
    isplitr
    · ipureintro; rw [read_landed, hfs, fwd_rev_fwd]
    iexact H
  have hi₁ := records_inv m ρ K (c, kS j)
  have hi₂ := records_inv m ρ K (fwd j c, kR j)
  have hr₁ := records_reached m ρ K (c, kS j)
  have hr₂ := records_reached m ρ K (fwd j c, kR j)
  have e₁ : kcell (c, kS j) = ((c : Thread nD τ), .dma (sendS j)) := by fin_cases j <;> rfl
  have e₂ : kcell (fwd j c, kR j) = ((fwd j c : Thread nD τ), .dma (recvS j)) := by fin_cases j <;> rfl
  rw [e₁] at hd₁ hk₁ hp₁ hi₁ hr₁
  rw [e₂] at hd₂ hk₂ hp₂ hi₂ hr₂ hO
  rw [e₁, e₂]
  unfold owesX
  iintro ⟨#HR, Hs, ⟨%fd, Hd⟩, ⟨%W, HO⟩, Ht₁, Ht₂⟩ Hk
  unfold sPts at hp₁ ⊢
  unfold rPts at hp₂ ⊢
  iapply (Rounds.wp_send_pointsTo 𝒱₀ ER (xRd m ρ) (c : Thread nD τ) none (src := sSl j) (dst := rSl j) (c' := (fwd j c : Thread nD τ))
    (sS := .dma (sendS j)) (sem := .dma (recvS j)) (κ₁ := K (c, kS j)) (κ₂ := K (fwd j c, kR j))
    (r₁ := 0) (r₂ := 0) (d₁ := 0) (d₂ := 0) (fs := fs) (fd := fd) hd₁ hd₂ () () N (credit_slot j) hk₁ hk₂ O hO (W := W) hp₁ (hp₂ fd))
    $$ [HO Hs Hd Ht₁ Ht₂]
  · isplitr; · iapply hi₁; iexact HR
    isplitr; · iapply hi₂; iexact HR
    isplitl [Hs]; · iexact Hs
    isplitl [Hd]; · iexact Hd
    isplitl [HO]; · iexact HO
    isplitl [Ht₁]; · iexact Ht₁
    isplitr; · iapply hr₁; iexact HR
    isplitl [Ht₂]; · iexact Ht₂
    iapply hr₂; iexact HR
  iintro ⟨Hc, HO⟩
  iapply Hk
  isplitl [Hc]; · iexact Hc
  iexists W; iexact HO

/-- At the end a semaphore's counter is zero, and the device's again. -/
theorem step_close (i : Fin 8) (c : Dev nD) :
    iprop(records m ρ K ∗ atPos ER (kcell (c, i)) 1 ∅ 0) ⊢ (|={Set.univ}=> semVal (kcell (c, i)) 0 : sProp 𝕄) := by
  iintro ⟨#HR, Hat⟩
  iapply (Rounds.cell_close ER (xRd m ρ) (Set.mem_univ (K (c, i))) (fun h => h) (R := 0 + 1) (duties_later m ρ (kcell (c, i))))
  isplitr; · iapply (records_inv m ρ K (c, i)); iexact HR
  iexact Hat

end Cert.KernelIdealProof

end
-- ==== Proof.PartsKernelIdeal.lean ====
/-
# The parts of the body, one by one

The kernel's body is printed as thirteen parts in a row. Each theorem here runs one part: from the buffers and the exchange's
resources that it uses to what it leaves, with the values that it passes on.
-/
module

public import proofs.«01_k».proof.Proof.StepsKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A part of the body, on the kernel's buffers and semaphores. -/
abbrev onBufs {β : Type 1} (p : (a0 : Memref sig .tc .vmem S2048x512 .f32) → a0.IsWhole → (a1 : Memref sig .tc .vmem S512x16 .f32) → a1.IsWhole → (a2 : Memref sig .tc .vmem S2048x1 .i32) → a2.IsWhole → (a3 : Memref sig .tc .vmem S4x512x1024 .f32) → a3.IsWhole → (a4 : Memref sig .tc .vmem S512x1024 .f32) → a4.IsWhole → (a5 : Memref sig .tc .vmem S512x1024 .f32) → a5.IsWhole → (a6 : Memref sig .tc .vmem S2048x16 .f32) → a6.IsWhole → (a7 : Memref sig .tc .vmem S4x512x1024 .bf16) → a7.IsWhole → (a8 : Memref sig .tc .vmem S3x512x1024 .bf16) → a8.IsWhole → (a9 : Memref sig .tc .vmem S3x512x1024 .bf16) → a9.IsWhole →
    DmaSems sig S3 → DmaSems sig S3 → Sems sig S_ → β) : β :=
  p xM (Memref.isWhole_whole _) gM (Memref.isWhole_whole _) iM (Memref.isWhole_whole _) wM (Memref.isWhole_whole _) hM (Memref.isWhole_whole _) oM (Memref.isWhole_whole _) pM (Memref.isWhole_whole _) bM (Memref.isWhole_whole _) sM (Memref.isWhole_whole _) rM (Memref.isWhole_whole _) cc0_scratch4 cc0_scratch5 cc0_scoped0

/-- Running a program on device `c`'s core. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A whole buffer of device `c`, and its contents. -/
abbrev holds (c : Dev nD) (b : Ref sig .tc) (X : Buf (Elt F) (((c : Dev nD) : Thread nD τ).loc b)) : sProp 𝕄 :=
  ((c : Thread nD τ).loc b) ↦{fullShare} X

theorem hz2 : (![0, 0] : Fin 2 → Nat) = fun _ => 0 := funext fun a => by fin_cases a <;> rfl
theorem hz3 : (![0, 0, 0] : Fin 3 → Nat) = fun _ => 0 := funext fun a => by fin_cases a <;> rfl

variable (K : Dev nD × Fin 8 → ℕ)

/-- Waiting for a copy: the general wait, at a copy's semaphore. -/
theorem step_waitDma (i : Fin 8) (c : Dev nD) {sp sp' : Space} {s s' : Shape} {e e' : EltTy} {sem : DmaSem sig}
    {src : Memref sig .tc sp' s' e'} {dst : Memref sig .tc sp s e} {hsrc : src.view.WordExact} {hdst : dst.view.WordExact}
    (hsem : (.dma sem : SemLoc sig) = csem i) (hN : dst.view.dmaCredit = N)
    (hk : N = (dutiesOf i).card * amountOf i) (l : List ((Dev nD × Fin 8) × ℕ)) (hl : ∀ x ∈ l, lvOf i < lvOf x.1.2)
    {α : Type} {Q : α → sProp 𝕄} {k : PUnit → Prog (TpuEff nD τ sig (Elt F) Λ₀ .tc) α} :
    iprop(records m ρ K ∗ levAts L lv ∗ cred (tallyAt (kcell (c, i)) () N) ∗ owesX c (debts l) ∗ atPos ER (kcell (c, i)) 0 ∅ 0)
      ⊢ iprop(((owesX c (debts l) ∗ atPos ER (kcell (c, i)) 1 ∅ 0 ∗ bigSep (dutiesOf i) (payOf m ρ i c))
            -∗ runs c (k ⟨⟩) Q)
          -∗ runs c (.op (.waitDma2 sem src dst hsrc hdst) k) Q) :=
  step_wait m ρ K i c (w := .waitDma2 sem src dst hsrc hdst) (k' := N)
    (fun Q => by rw [wpE_waitDma2_eq, hsem, hN]) hk l hl

/-- What is still owed at the body's end comes after every wait but the last. -/
theorem before_end {i : Fin 8} (hi : lvOf i < 3) (c : Dev nD) : ∀ x ∈ (dues c).drop 6, lvOf i < lvOf x.1.2 := by
  revert i c; decide

/-- Part 1: the barrier — this device's receive slots go out, the slots it will write come in — and the softmax's
    numerators and sums. -/
theorem part1_sound (c : Dev nD) (X : Vec F S2048x512 .f32) (G : Vec F S512x16 .f32) (Kt : _ → sProp 𝕄) :
    iprop((records m ρ K ∗ levAts L lv ∗ owesX c (left 0 c)
        ∗ (dutyTok ER (kcell (fwd 0 c, 0)) 0 (Fin.rev 0) ∗ dutyTok ER (kcell (fwd 1 c, 0)) 0 (Fin.rev 1) ∗ dutyTok ER (kcell (fwd 2 c, 0)) 0 (Fin.rev 2))
        ∗ ((∃ f, rPts (Fin.rev 0) c f) ∗ (∃ f, rPts (Fin.rev 1) c f) ∗ (∃ f, rPts (Fin.rev 2) c f))
        ∗ cred (tallyAt (kcell (c, 0)) () 3) ∗ atPos ER (kcell (c, 0)) 0 ∅ 0 ∗ holds c cc0_stg0_0 X ∗ holds c cc0_stg1_0 G)
      ∗ ((owesX c (left 3 c) ∗ atPos ER (kcell (c, 0)) 1 ∅ 0 ∗ (barPay c 0 ∗ barPay c 1 ∗ barPay c 2) ∗ holds c cc0_stg0_0 X ∗ holds c cc0_stg1_0 G)
          -∗ Kt ⟨c, vid c, k0_pay1 X G, k0_pay2 X G⟩))
      ⊢ runs c (onBufs (k0_part1 (F := F))) Kt := by
  unfold onBufs
  rw [k0_part1_eq_skeleton]; unfold k0_part1_skel
  simp only [semSignalWord, semWaitWord, Prog.lift, Prog.bind_op, Prog.bind_ret, Prog.pure_eq_ret, wp_deviceId]
  iintro ⟨⟨#HR, #Hlev, HO, ⟨Ht0, Ht1, Ht2⟩, ⟨Hr0, Hr1, Hr2⟩, Hc, Hat, HX, HG⟩, Hk⟩
  iapply (step_bar m ρ K 0 c _ (dev1_eq c) (k' := 1) rfl (O₀ := left 0 c) (O := left 1 c) rfl) $$ [HO Ht0 Hr0]
  · isplitr; · iexact HR
    isplitl [HO]; · iexact HO
    isplitl [Ht0] <;> iassumption
  iintro HO
  iapply (step_bar m ρ K 1 c _ (dev2_eq c) (k' := 1) rfl (O₀ := left 1 c) (O := left 2 c) rfl) $$ [HO Ht1 Hr1]
  · isplitr; · iexact HR
    isplitl [HO]; · iexact HO
    isplitl [Ht1] <;> iassumption
  iintro HO
  iapply (step_bar m ρ K 2 c _ (dev3_eq c) (k' := 1) rfl (O₀ := left 2 c) (O := left 3 c) rfl) $$ [HO Ht2 Hr2]
  · isplitr; · iexact HR
    isplitl [HO]; · iexact HO
    isplitl [Ht2] <;> iassumption
  iintro HO
  iapply (step_wait m ρ K 0 c (k' := 3) (wpE_semWait_eq 𝒱₀ (c : Thread nD τ) none Set.univ) rfl ((dues c).drop 3) (by decide +revert)) $$ [Hc HO Hat]
  · isplitr; · iexact HR
    isplitr; · iexact Hlev
    isplitl [Hc]; · iexact Hc
    isplitl [HO] <;> iassumption
  iintro ⟨HO, Hat, Hpay⟩
  ihave Hp := (Entails.of_eq (pays_bar m ρ c)) $$ Hpay
  iapply (wp_load 𝒱₀ (c : Thread nD τ) none Set.univ (m := xM) (Finset.subset_univ _)) $$ HX; iintro HX
  iapply (wp_load 𝒱₀ (c : Thread nD τ) none Set.univ (m := gM) (Finset.subset_univ _)) $$ HG; iintro HG
  rw [show xM.view.readAt (Elt F) (Rect.unit ![0, 0] ![2048, 512] inb_S2048x512_S2048x512_0_0).toLoadRect X = X from Memref.readAt_unit_zero (Elt F) cc0_stg0_0 hz2 _ X,
    show gM.view.readAt (Elt F) (Rect.unit ![0, 0] ![512, 16] inb_S512x16_S512x16_0_0).toLoadRect G = G from Memref.readAt_unit_zero (Elt F) cc0_stg1_0 hz2 _ G, wp_ret]
  imodintro
  iapply Hk
  isplitl [HO]; · iexact HO
  isplitl [Hat]; · iexact Hat
  isplitl [Hp]; · iexact Hp
  isplitl [HX] <;> iassumption

/-- Part 2: the routed probabilities and the narrowed weights are stored; the first chunk's first operands. -/
theorem part2_sound (c : Dev nD) (X : Vec F S2048x512 .f32) (I : Vec F S2048x1 .i32) (W : Vec F S4x512x1024 .f32) (v2 v25 v28) (Kt : _ → sProp 𝕄) :
    iprop((holds c cc0_stg0_0 X ∗ holds c cc0_stg2_0 I ∗ holds c cc0_stg3_0 W ∗ (∃ f, holds c cc0_scratch0 f) ∗ (∃ f, holds c cc0_scratch1 f))
      ∗ ((holds c cc0_stg0_0 X ∗ holds c cc0_stg2_0 I ∗ holds c cc0_stg3_0 W ∗ holds c cc0_scratch0 (k0_pay3 v25 v28 I) ∗ holds c cc0_scratch1 (k0_pay4 W))
          -∗ Kt ⟨lanes, Scalar.remsi (Scalar.addi v2 1#32) 4#32, k0_pay5 (rdX (xR1 c) X), rdP (pR1 c) (k0_pay3 v25 v28 I), k0_pay6,
              k0_pay7 v2 (rdX (xR1 c) X) (rdP (pR1 c) (k0_pay3 v25 v28 I))⟩))
      ⊢ runs c (onBufs (k0_part2 (F := F)) c v2 v25 v28) Kt := by
  unfold onBufs
  rw [k0_part2_eq_skeleton]; unfold k0_part2_skel
  simp only [semSignalWord, semWaitWord, Prog.lift, Prog.bind_op, Prog.bind_ret, Prog.pure_eq_ret]
  iintro ⟨⟨HX, HI, HW, ⟨%p0, HP⟩, ⟨%b0, HB⟩⟩, Hk⟩
  iapply (wp_load 𝒱₀ (c : Thread nD τ) none Set.univ (m := iM) (Finset.subset_univ _)) $$ HI; iintro HI
  iapply (wp_load 𝒱₀ (c : Thread nD τ) none Set.univ (m := pM) (Finset.subset_univ _)) $$ HP; iintro HP
  iapply (wp_store 𝒱₀ (c : Thread nD τ) none Set.univ (m := pM) (r := Rect.unit (s := S2048x16) ![0, 0] S2048x16.size inb_S2048x16_S2048x16_0_0) (Mk := Finset.univ) (Finset.subset_univ _)) $$ HP; iintro HP
  rw [show iM.view.readAt (Elt F) (Rect.unit ![0, 0] ![2048, 1] inb_S2048x1_S2048x1_0_0).toLoadRect I = I from Memref.readAt_unit_zero (Elt F) cc0_stg2_0 hz2 _ I, show ∀ w, (pM.access (Rect.unit ![0, 0] ![2048, 16] inb_S2048x16_S2048x16_0_0)).write (Elt F) p0 w Finset.univ = w from fun w => Memref.write_access_unit_zero_univ (Elt F) cc0_scratch0 hz2 _ p0 w]
  iapply (wp_load 𝒱₀ (c : Thread nD τ) none Set.univ (m := wM) (Finset.subset_univ _)) $$ HW; iintro HW
  iapply (wp_load 𝒱₀ (c : Thread nD τ) none Set.univ (m := bM) (Finset.subset_univ _)) $$ HB; iintro HB
  iapply (wp_store 𝒱₀ (c : Thread nD τ) none Set.univ (m := bM) (r := Rect.unit (s := S4x512x1024) ![0, 0, 0] S4x512x1024.size inb_S4x512x1024_S4x512x1024_0_0_0) (Mk := Finset.univ) (Finset.subset_univ _)) $$ HB; iintro HB
  rw [show wM.view.readAt (Elt F) (Rect.unit ![0, 0, 0] ![4, 512, 1024] inb_S4x512x1024_S4x512x1024_0_0_0).toLoadRect W = W from Memref.readAt_unit_zero (Elt F) cc0_stg3_0 hz3 _ W, show ∀ w, (bM.access (Rect.unit ![0, 0, 0] ![4, 512, 1024] inb_S4x512x1024_S4x512x1024_0_0_0)).write (Elt F) b0 w Finset.univ = w from fun w => Memref.write_access_unit_zero_univ (Elt F) cc0_scratch1 hz3 _ b0 w]
  iapply (wp_load 𝒱₀ (c : Thread nD τ) none Set.univ (m := xM) (Finset.subset_univ _)) $$ HX; iintro HX
  iapply (wp_load 𝒱₀ (c : Thread nD τ) none Set.univ (m := pM) (Finset.subset_univ _)) $$ HP; iintro HP
  rw [wp_ret]; imodintro
  iapply Hk
  isplitl [HX]; · iexact HX
  isplitl [HI]; · iexact HI
  isplitl [HW]; · iexact HW
  isplitl [HP] <;> iassumption

/-- Part 3: three of the first chunk's four products. -/
theorem part3_sound (c : Dev nD) (B : Vec F S4x512x1024 .bf16) (v2 v51 v54 v55 v65) (Kt : _ → sProp 𝕄) :
    iprop(holds c cc0_scratch1 B ∗ (holds c cc0_scratch1 B -∗
        Kt ⟨k0_pay8 v2 v51 v54 v55 v65 (rdB bR0 B) (rdB bR1 B) (rdB bR2 B), k0_pay9 v2 v55⟩))
      ⊢ runs c (onBufs (k0_part3 (F := F)) v2 v51 v54 v55 v65) Kt := by
  unfold onBufs
  rw [k0_part3_eq_skeleton]; unfold k0_part3_skel
  simp only [Prog.lift, Prog.bind_op, Prog.bind_ret, Prog.pure_eq_ret]
  iintro ⟨HB, Hk⟩
  iapply (wp_load 𝒱₀ (c : Thread nD τ) none Set.univ (m := bM) (Finset.subset_univ _)) $$ HB; iintro HB
  iapply (wp_load 𝒱₀ (c : Thread nD τ) none Set.univ (m := bM) (Finset.subset_univ _)) $$ HB; iintro HB
  iapply (wp_load 𝒱₀ (c : Thread nD τ) none Set.univ (m := bM) (Finset.subset_univ _)) $$ HB; iintro HB
  rw [wp_ret]; imodintro
  iapply Hk; iexact HB

/-- Part 4: the first chunk's partial result is stored in its slot and sent; the second chunk's tokens. -/
theorem part4_sound (c : Dev nD) (X : Vec F S2048x512 .f32) (B : Vec F S4x512x1024 .bf16) (v2 v47 v51 v54 v99 v103)
    (hv : k0_pay10 v51 v54 v99 v103 (rdB bR3 B) = sentAt m ρ 0 c) (Kt : _ → sProp 𝕄) :
    iprop((records m ρ K ∗ holds c cc0_stg0_0 X ∗ holds c cc0_scratch1 B ∗ (∃ f, sPts 0 c f) ∗ (∃ f, rPts 0 (fwd 0 c) f) ∗ owesX c (left 3 c)
        ∗ dutyTok ER (kcell (c, kS 0)) 0 0 ∗ dutyTok ER (kcell (fwd 0 c, kR 0)) 0 0)
      ∗ ((holds c cc0_stg0_0 X ∗ holds c cc0_scratch1 B ∗ owesX c (left 4 c) ∗ cred (tallyAt (kcell (c, kS 0)) () N))
          -∗ Kt ⟨Scalar.remsi (Scalar.addi v2 2#32) 4#32, k0_pay11 (rdX (xR2 c) X)⟩))
      ⊢ runs c (onBufs (k0_part4 (F := F)) c v2 v47 v51 v54 v99 v103) Kt := by
  unfold onBufs
  rw [k0_part4_eq_skeleton]; unfold k0_part4_skel
  simp only [semSignalWord, semWaitWord, Prog.lift, Prog.bind_op, Prog.bind_ret, Prog.pure_eq_ret]
  iintro ⟨⟨#HR, HX, HB, ⟨%f, HS⟩, HD, HO, Ht1, Ht2⟩, Hk⟩
  iapply (wp_load 𝒱₀ (c : Thread nD τ) none Set.univ (m := bM) (Finset.subset_univ _)) $$ HB; iintro HB
  unfold sPts
  iapply (wp_load 𝒱₀ (c : Thread nD τ) none Set.univ (m := sM) (sLoad_set 0)) $$ HS; iintro HS
  iapply (wp_store 𝒱₀ (c : Thread nD τ) none Set.univ (m := sM) (r := slotR 0) (Mk := Finset.univ) (sAcc_set 0)) $$ HS; iintro HS
  have hfs := (read_stored 0 f (k0_pay10 v51 v54 v99 v103 (rdB bR3 B))).trans hv
  iapply (step_send m ρ K 0 c _ (dev4_eq c) (O₀ := left 3 c) (O := left 4 c) rfl _ hfs) $$ [HO HS HD Ht1 Ht2]
  · isplitr; · iexact HR
    isplitl [HS]; · unfold sPts; iexact HS
    isplitl [HD]; · iexact HD
    isplitl [HO]; · iexact HO
    isplitl [Ht1] <;> iassumption
  iintro ⟨Hc, HO⟩
  iapply (wp_load 𝒱₀ (c : Thread nD τ) none Set.univ (m := xM) (Finset.subset_univ _)) $$ HX; iintro HX
  rw [wp_ret]; imodintro
  iapply Hk
  isplitl [HX]; · iexact HX
  isplitl [HB]; · iexact HB
  isplitl [HO] <;> iassumption

/-- Part 5: two of the second chunk's products and the third's weights. -/
theorem part5_sound (c : Dev nD) (P : Vec F S2048x16 .f32) (B : Vec F S4x512x1024 .bf16) (v2 v30 v134) (Kt : _ → sProp 𝕄) :
    iprop((holds c cc0_scratch0 P ∗ holds c cc0_scratch1 B) ∗ ((holds c cc0_scratch0 P ∗ holds c cc0_scratch1 B)
        -∗ Kt ⟨rdP (pR2 c) P, k0_pay12 v30, k0_pay13 v2 v30 v134 (rdP (pR2 c) P) (rdB bR0 B) (rdB bR1 B), k0_pay14 v2 v30 (rdP (pR2 c) P)⟩))
      ⊢ runs c (onBufs (k0_part5 (F := F)) c v2 v30 v134) Kt := by
  unfold onBufs
  rw [k0_part5_eq_skeleton]; unfold k0_part5_skel
  simp only [semSignalWord, semWaitWord, Prog.lift, Prog.bind_op, Prog.bind_ret, Prog.pure_eq_ret]
  iintro ⟨⟨HP, HB⟩, Hk⟩
  iapply (wp_load 𝒱₀ (c : Thread nD τ) none Set.univ (m := pM) (Finset.subset_univ _)) $$ HP; iintro HP
  iapply (wp_load 𝒱₀ (c : Thread nD τ) none Set.univ (m := bM) (Finset.subset_univ _)) $$ HB; iintro HB
  iapply (wp_load 𝒱₀ (c : Thread nD τ) none Set.univ (m := bM) (Finset.subset_univ _)) $$ HB; iintro HB
  rw [wp_ret]; imodintro
  iapply Hk
  isplitl [HP] <;> iassumption

/-- Part 6: the second chunk's partial result is stored in its slot. -/
theorem part6_sound (c : Dev nD) (B : Vec F S4x512x1024 .bf16) (v2 v130 v134 v137 v138 v167 v176) (Kt : _ → sProp 𝕄) :
    iprop((holds c cc0_scratch1 B ∗ (∃ f, sPts 1 c f))
      ∗ ((holds c cc0_scratch1 B ∗ (∃ f, ⌜sM.view.readAt (Elt F) (slotR 1).toLoadRect f
            = k0_pay15 v2 v134 v137 v138 v167 v176 (rdB bR2 B) (rdB bR3 B)⌝ ∗ sPts 1 c f)) -∗ Kt ⟨⟩))
      ⊢ runs c (onBufs (k0_part6 (F := F)) v2 v130 v134 v137 v138 v167 v176) Kt := by
  unfold onBufs
  rw [k0_part6_eq_skeleton]; unfold k0_part6_skel
  simp only [semSignalWord, semWaitWord, Prog.lift, Prog.bind_op, Prog.bind_ret, Prog.pure_eq_ret]
  iintro ⟨⟨HB, ⟨%f, HS⟩⟩, Hk⟩
  iapply (wp_load 𝒱₀ (c : Thread nD τ) none Set.univ (m := bM) (Finset.subset_univ _)) $$ HB; iintro HB
  iapply (wp_load 𝒱₀ (c : Thread nD τ) none Set.univ (m := bM) (Finset.subset_univ _)) $$ HB; iintro HB
  unfold sPts
  iapply (wp_load 𝒱₀ (c : Thread nD τ) none Set.univ (m := sM) (sLoad_set 1)) $$ HS; iintro HS
  iapply (wp_store 𝒱₀ (c : Thread nD τ) none Set.univ (m := sM) (r := slotR 1) (Mk := Finset.univ) (sAcc_set 1)) $$ HS; iintro HS
  rw [wp_ret]; imodintro
  iapply Hk
  isplitl [HB]; · iexact HB
  iexists _
  isplitr
  · ipureintro; exact read_stored 1 f _
  iexact HS

/-- Part 7: the second slot is sent; the third chunk's first operands. -/
theorem part7_sound (c : Dev nD) (X : Vec F S2048x512 .f32) (P : Vec F S2048x16 .f32) (B : Vec F S4x512x1024 .bf16) (v2 v30)
    (fs : (cc0_scratch2 : Ref sig .tc).ty.Contents (Elt F)) (hfs : sM.view.readAt (Elt F) (slotR 1).toLoadRect fs = sentAt m ρ 1 c) (Kt : _ → sProp 𝕄) :
    iprop((records m ρ K ∗ holds c cc0_stg0_0 X ∗ holds c cc0_scratch0 P ∗ holds c cc0_scratch1 B ∗ sPts 1 c fs ∗ (∃ f, rPts 1 (fwd 1 c) f) ∗ owesX c (left 4 c)
        ∗ dutyTok ER (kcell (c, kS 1)) 0 0 ∗ dutyTok ER (kcell (fwd 1 c, kR 1)) 0 0)
      ∗ ((holds c cc0_stg0_0 X ∗ holds c cc0_scratch0 P ∗ holds c cc0_scratch1 B ∗ owesX c (left 5 c) ∗ cred (tallyAt (kcell (c, kS 1)) () N))
          -∗ Kt ⟨Scalar.remsi (Scalar.addi v2 3#32) 4#32, k0_pay16 (rdX (xR3 c) X), rdP (pR3 c) P, k0_pay17 v30,
              k0_pay18 v2 v30 (rdX (xR3 c) X) (rdP (pR3 c) P) (rdB bR0 B), k0_pay19 v2 v30 (rdX (xR3 c) X) (rdP (pR3 c) P), k0_pay20 (rdB bR1 B)⟩))
      ⊢ runs c (onBufs (k0_part7 (F := F)) c v2 v30) Kt := by
  unfold onBufs
  rw [k0_part7_eq_skeleton]; unfold k0_part7_skel
  simp only [semSignalWord, semWaitWord, Prog.lift, Prog.bind_op, Prog.bind_ret, Prog.pure_eq_ret]
  iintro ⟨⟨#HR, HX, HP, HB, HS, HD, HO, Ht1, Ht2⟩, Hk⟩
  iapply (step_send m ρ K 1 c _ (dev5_eq c) (O₀ := left 4 c) (O := left 5 c) rfl _ hfs) $$ [HO HS HD Ht1 Ht2]
  · isplitr; · iexact HR
    isplitl [HS]; · iexact HS
    isplitl [HD]; · iexact HD
    isplitl [HO]; · iexact HO
    isplitl [Ht1] <;> iassumption
  iintro ⟨Hc, HO⟩
  iapply (wp_load 𝒱₀ (c : Thread nD τ) none Set.univ (m := xM) (Finset.subset_univ _)) $$ HX; iintro HX
  iapply (wp_load 𝒱₀ (c : Thread nD τ) none Set.univ (m := pM) (Finset.subset_univ _)) $$ HP; iintro HP
  iapply (wp_load 𝒱₀ (c : Thread nD τ) none Set.univ (m := bM) (Finset.subset_univ _)) $$ HB; iintro HB
  iapply (wp_load 𝒱₀ (c : Thread nD τ) none Set.univ (m := bM) (Finset.subset_univ _)) $$ HB; iintro HB
  rw [wp_ret]; imodintro
  iapply Hk
  isplitl [HX]; · iexact HX
  isplitl [HP]; · iexact HP
  isplitl [HB]; · iexact HB
  isplitl [HO] <;> iassumption

/-- Part 8: the third chunk's partial result is stored in its slot. -/
theorem part8_sound (c : Dev nD) (B : Vec F S4x512x1024 .bf16) (v2 v217 v220 v221 v235 v246 v248) (Kt : _ → sProp 𝕄) :
    iprop((holds c cc0_scratch1 B ∗ (∃ f, sPts 2 c f))
      ∗ ((holds c cc0_scratch1 B ∗ (∃ f, ⌜sM.view.readAt (Elt F) (slotR 2).toLoadRect f
            = k0_pay21 v2 v217 v220 v221 v235 v246 v248 (rdB bR2 B) (rdB bR3 B)⌝ ∗ sPts 2 c f)) -∗ Kt ⟨⟩))
      ⊢ runs c (onBufs (k0_part8 (F := F)) v2 v217 v220 v221 v235 v246 v248) Kt := by
  unfold onBufs
  rw [k0_part8_eq_skeleton]; unfold k0_part8_skel
  simp only [semSignalWord, semWaitWord, Prog.lift, Prog.bind_op, Prog.bind_ret, Prog.pure_eq_ret]
  iintro ⟨⟨HB, ⟨%f, HS⟩⟩, Hk⟩
  iapply (wp_load 𝒱₀ (c : Thread nD τ) none Set.univ (m := bM) (Finset.subset_univ _)) $$ HB; iintro HB
  iapply (wp_load 𝒱₀ (c : Thread nD τ) none Set.univ (m := bM) (Finset.subset_univ _)) $$ HB; iintro HB
  unfold sPts
  iapply (wp_load 𝒱₀ (c : Thread nD τ) none Set.univ (m := sM) (sLoad_set 2)) $$ HS; iintro HS
  iapply (wp_store 𝒱₀ (c : Thread nD τ) none Set.univ (m := sM) (r := slotR 2) (Mk := Finset.univ) (sAcc_set 2)) $$ HS; iintro HS
  rw [wp_ret]; imodintro
  iapply Hk
  isplitl [HB]; · iexact HB
  iexists _
  isplitr
  · ipureintro; exact read_stored 2 f _
  iexact HS

/-- Part 9: the third slot is sent; the device's own chunk's first operands. -/
theorem part9_sound (c : Dev nD) (X : Vec F S2048x512 .f32) (P : Vec F S2048x16 .f32) (B : Vec F S4x512x1024 .bf16) (v2 v30 v213)
    (fs : (cc0_scratch2 : Ref sig .tc).ty.Contents (Elt F)) (hfs : sM.view.readAt (Elt F) (slotR 2).toLoadRect fs = sentAt m ρ 2 c) (Kt : _ → sProp 𝕄) :
    iprop((records m ρ K ∗ holds c cc0_stg0_0 X ∗ holds c cc0_scratch0 P ∗ holds c cc0_scratch1 B ∗ sPts 2 c fs ∗ (∃ f, rPts 2 (fwd 2 c) f) ∗ owesX c (left 5 c)
        ∗ dutyTok ER (kcell (c, kS 2)) 0 0 ∗ dutyTok ER (kcell (fwd 2 c, kR 2)) 0 0)
      ∗ ((holds c cc0_stg0_0 X ∗ holds c cc0_scratch0 P ∗ holds c cc0_scratch1 B ∗ owesX c (left 6 c) ∗ cred (tallyAt (kcell (c, kS 2)) () N))
          -∗ Kt ⟨k0_pay22 (rdX (xR0 c) X), rdP (pR0 c) P, k0_pay23 v30,
              k0_pay24 v2 v30 (rdX (xR0 c) X) (rdP (pR0 c) P) (rdB bR0 B), k0_pay25 v2 v30, k0_pay26⟩))
      ⊢ runs c (onBufs (k0_part9 (F := F)) c v2 v30 v213) Kt := by
  unfold onBufs
  rw [k0_part9_eq_skeleton]; unfold k0_part9_skel
  simp only [semSignalWord, semWaitWord, Prog.lift, Prog.bind_op, Prog.bind_ret, Prog.pure_eq_ret]
  iintro ⟨⟨#HR, HX, HP, HB, HS, HD, HO, Ht1, Ht2⟩, Hk⟩
  iapply (step_send m ρ K 2 c _ (dev6_eq c) (O₀ := left 5 c) (O := left 6 c) rfl _ hfs) $$ [HO HS HD Ht1 Ht2]
  · isplitr; · iexact HR
    isplitl [HS]; · iexact HS
    isplitl [HD]; · iexact HD
    isplitl [HO]; · iexact HO
    isplitl [Ht1] <;> iassumption
  iintro ⟨Hc, HO⟩
  iapply (wp_load 𝒱₀ (c : Thread nD τ) none Set.univ (m := xM) (Finset.subset_univ _)) $$ HX; iintro HX
  iapply (wp_load 𝒱₀ (c : Thread nD τ) none Set.univ (m := pM) (Finset.subset_univ _)) $$ HP; iintro HP
  iapply (wp_load 𝒱₀ (c : Thread nD τ) none Set.univ (m := bM) (Finset.subset_univ _)) $$ HB; iintro HB
  rw [wp_ret]; imodintro
  iapply Hk
  isplitl [HX]; · iexact HX
  isplitl [HP]; · iexact HP
  isplitl [HB]; · iexact HB
  isplitl [HO] <;> iassumption

/-- Part 10: the device's own chunk's products. -/
theorem part10_sound (c : Dev nD) (B : Vec F S4x512x1024 .bf16) (v2 v298 v301 v302 v316 v320 v321) (Kt : _ → sProp 𝕄) :
    iprop(holds c cc0_scratch1 B ∗ (holds c cc0_scratch1 B -∗
        Kt ⟨k0_pay27 v2 v298 v301 v302 v316 v320 v321 (rdB bR1 B) (rdB bR2 B), k0_pay28 v2 v298 v301 v302 (rdB bR3 B)⟩))
      ⊢ runs c (onBufs (k0_part10 (F := F)) v2 v298 v301 v302 v316 v320 v321) Kt := by
  unfold onBufs
  rw [k0_part10_eq_skeleton]; unfold k0_part10_skel
  simp only [semSignalWord, semWaitWord, Prog.lift, Prog.bind_op, Prog.bind_ret, Prog.pure_eq_ret]
  iintro ⟨HB, Hk⟩
  iapply (wp_load 𝒱₀ (c : Thread nD τ) none Set.univ (m := bM) (Finset.subset_univ _)) $$ HB; iintro HB
  iapply (wp_load 𝒱₀ (c : Thread nD τ) none Set.univ (m := bM) (Finset.subset_univ _)) $$ HB; iintro HB
  iapply (wp_load 𝒱₀ (c : Thread nD τ) none Set.univ (m := bM) (Finset.subset_univ _)) $$ HB; iintro HB
  rw [wp_ret]; imodintro
  iapply Hk; iexact HB

/-- Part 11: the shared expert's product, the first received slot added; the second has arrived. -/
theorem part11_sound (c : Dev nD) (X : Vec F S2048x512 .f32) (H : Vec F S512x1024 .f32) (v2 v47 v130 v346 v360) (Kt : _ → sProp 𝕄) :
    iprop((records m ρ K ∗ levAts L lv ∗ holds c cc0_stg0_0 X ∗ holds c cc0_stg4_0 H ∗ owesX c (left 6 c)
        ∗ (cred (tallyAt (kcell (c, 4)) () N) ∗ atPos ER (kcell (c, 4)) 0 ∅ 0)
        ∗ (cred (tallyAt (kcell (c, 5)) () N) ∗ atPos ER (kcell (c, 5)) 0 ∅ 0))
      ∗ ((holds c cc0_stg0_0 X ∗ holds c cc0_stg4_0 H ∗ owesX c (left 6 c) ∗ atPos ER (kcell (c, 4)) 1 ∅ 0 ∗ atPos ER (kcell (c, 5)) 1 ∅ 0
            ∗ (∃ f, rPts 0 c f) ∗ recvPay m ρ 1 c)
          -∗ Kt (k0_pay29 v346 v360 (rdX (xR0 c) X) H (sentAt m ρ 0 (fwd (Fin.rev 0) c)))))
      ⊢ runs c (onBufs (k0_part11 (F := F)) c v2 v47 v130 v346 v360) Kt := by
  unfold onBufs
  rw [k0_part11_eq_skeleton]; unfold k0_part11_skel
  simp only [semSignalWord, semWaitWord, Prog.lift, Prog.bind_op, Prog.bind_ret, Prog.pure_eq_ret]
  iintro ⟨⟨#HR, #Hlev, HX, HH, HO, ⟨Hc4, Hat4⟩, ⟨Hc5, Hat5⟩⟩, Hk⟩
  iapply (wp_load 𝒱₀ (c : Thread nD τ) none Set.univ (m := xM) (Finset.subset_univ _)) $$ HX; iintro HX
  iapply (wp_load 𝒱₀ (c : Thread nD τ) none Set.univ (m := hM) (Finset.subset_univ _)) $$ HH; iintro HH
  rw [show hM.view.readAt (Elt F) (Rect.unit ![0, 0] ![512, 1024] inb_S512x1024_S512x1024_0_0).toLoadRect H = H from Memref.readAt_unit_zero (Elt F) cc0_stg4_0 hz2 _ H]
  iapply (step_waitDma m ρ K 4 c rfl (credit_slot 0) (Nat.one_mul N).symm ((dues c).drop 6) (before_end (i := 4) (by decide) c)) $$ [Hc4 HO Hat4]
  · isplitr; · iexact HR
    isplitr; · iexact Hlev
    isplitl [Hc4]; · iexact Hc4
    isplitl [HO] <;> iassumption
  iintro ⟨HO, Hat4, Hpay⟩
  ihave Hp := (Entails.of_eq (pays_recv m ρ 0 c)) $$ Hpay
  unfold recvPay rPts
  icases Hp with ⟨%f0, %h0, Hr0⟩
  iapply (wp_load 𝒱₀ (c : Thread nD τ) none Set.univ (m := rM) (rLoad_set 0)) $$ Hr0; iintro Hr0
  rw [h0]
  iapply (step_waitDma m ρ K 5 c rfl (credit_slot 1) (Nat.one_mul N).symm ((dues c).drop 6) (before_end (i := 5) (by decide) c)) $$ [Hc5 HO Hat5]
  · isplitr; · iexact HR
    isplitr; · iexact Hlev
    isplitl [Hc5]; · iexact Hc5
    isplitl [HO] <;> iassumption
  iintro ⟨HO, Hat5, Hpay⟩
  ihave Hp := (Entails.of_eq (pays_recv m ρ 1 c)) $$ Hpay
  unfold recvPay rPts
  unfold runs; rw [wp_ret]; imodintro
  iapply Hk
  isplitl [HX]; · iexact HX
  isplitl [HH]; · iexact HH
  isplitl [HO]; · iexact HO
  isplitl [Hat4]; · iexact Hat4
  isplitl [Hat5]; · iexact Hat5
  isplitl [Hr0]
  · iexists f0; iexact Hr0
  iexact Hp

/-- Part 12: the other two received slots are added and the result stored; the first send slot is back. -/
theorem part12_sound (c : Dev nD) (v213 v381) (Kt : _ → sProp 𝕄) :
    iprop((records m ρ K ∗ levAts L lv ∗ owesX c (left 6 c) ∗ recvPay m ρ 1 c ∗ (∃ f, holds c cc0_stg5_0 f)
        ∗ (cred (tallyAt (kcell (c, 6)) () N) ∗ atPos ER (kcell (c, 6)) 0 ∅ 0)
        ∗ (cred (tallyAt (kcell (c, 1)) () N) ∗ atPos ER (kcell (c, 1)) 0 ∅ 0))
      ∗ ((owesX c (left 6 c) ∗ atPos ER (kcell (c, 6)) 1 ∅ 0 ∗ atPos ER (kcell (c, 1)) 1 ∅ 0
            ∗ (∃ f, rPts 1 c f) ∗ (∃ f, rPts 2 c f) ∗ (∃ f, sPts 0 c f)
            ∗ holds c cc0_stg5_0 (k0_pay30 v381 (sentAt m ρ 1 (fwd (Fin.rev 1) c)) (sentAt m ρ 2 (fwd (Fin.rev 2) c))))
          -∗ Kt ⟨⟩))
      ⊢ runs c (onBufs (k0_part12 (F := F)) v213 v381) Kt := by
  unfold onBufs
  rw [k0_part12_eq_skeleton]; unfold k0_part12_skel
  simp only [semSignalWord, semWaitWord, Prog.lift, Prog.bind_op, Prog.bind_ret, Prog.pure_eq_ret]
  unfold recvPay
  iintro ⟨⟨#HR, #Hlev, HO, ⟨%f1, %h1, Hr1⟩, ⟨%fo, Ho⟩, ⟨Hc6, Hat6⟩, ⟨Hc1, Hat1⟩⟩, Hk⟩
  unfold rPts
  iapply (wp_load 𝒱₀ (c : Thread nD τ) none Set.univ (m := rM) (rLoad_set 1)) $$ Hr1; iintro Hr1
  rw [h1]
  iapply (step_waitDma m ρ K 6 c rfl (credit_slot 2) (Nat.one_mul N).symm ((dues c).drop 6) (before_end (i := 6) (by decide) c)) $$ [Hc6 HO Hat6]
  · isplitr; · iexact HR
    isplitr; · iexact Hlev
    isplitl [Hc6]; · iexact Hc6
    isplitl [HO] <;> iassumption
  iintro ⟨HO, Hat6, Hpay⟩
  ihave Hp := (Entails.of_eq (pays_recv m ρ 2 c)) $$ Hpay
  unfold recvPay rPts
  icases Hp with ⟨%f2, %h2, Hr2⟩
  iapply (wp_load 𝒱₀ (c : Thread nD τ) none Set.univ (m := rM) (rLoad_set 2)) $$ Hr2; iintro Hr2
  rw [h2]
  iapply (wp_load 𝒱₀ (c : Thread nD τ) none Set.univ (m := oM) (Finset.subset_univ _)) $$ Ho; iintro Ho
  iapply (wp_store 𝒱₀ (c : Thread nD τ) none Set.univ (m := oM) (r := Rect.unit (s := S512x1024) ![0, 0] S512x1024.size inb_S512x1024_S512x1024_0_0) (Mk := Finset.univ) (Finset.subset_univ _)) $$ Ho; iintro Ho
  rw [show ∀ w, (oM.access (Rect.unit ![0, 0] ![512, 1024] inb_S512x1024_S512x1024_0_0)).write (Elt F) fo w Finset.univ = w from fun w => Memref.write_access_unit_zero_univ (Elt F) cc0_stg5_0 hz2 _ fo w]
  iapply (step_waitDma m ρ K 1 c rfl (credit_send 0) (Nat.one_mul N).symm ((dues c).drop 6) (before_end (i := 1) (by decide) c)) $$ [Hc1 HO Hat1]
  · isplitr; · iexact HR
    isplitr; · iexact Hlev
    isplitl [Hc1]; · iexact Hc1
    isplitl [HO] <;> iassumption
  iintro ⟨HO, Hat1, Hpay⟩
  ihave Hp := (Entails.of_eq (pays_send m ρ 0 c)) $$ Hpay
  unfold sendPay
  unfold runs; rw [wp_ret]; imodintro
  iapply Hk
  isplitl [HO]; · iexact HO
  isplitl [Hat6]; · iexact Hat6
  isplitl [Hat1]; · iexact Hat1
  isplitl [Hr1]; · iexists f1; iexact Hr1
  isplitl [Hr2]; · iexists f2; iexact Hr2
  isplitl [Hp]; · iexact Hp
  iexact Ho

end Cert.KernelIdealProof

end
-- ==== Proof.BodyKernelIdeal.lean ====
/-
# The body

The parts of the body run one after the other: from what a device holds when the kernel starts to what it holds when the
kernel ends.
-/
module

public import proofs.«01_k».proof.Proof.PartsKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The tokens that device `c` pays with at its step `j`: to the two barriers, for the copy's arrival and for its departure. -/
def payTok (j : Fin 3) (c : Dev nD) : sProp 𝕄 :=
  iprop(dutyTok ER (kcell (fwd j c, 0)) 0 j.rev ∗ dutyTok ER (kcell (fwd j c, 7)) 0 j.rev
    ∗ dutyTok ER (kcell (fwd j c, kR j)) 0 0 ∗ dutyTok ER (kcell (c, kS j)) 0 0)
/-- The credit for what others pay to device `c`. -/
def credits (c : Dev nD) : sProp 𝕄 :=
  iprop(cred (tallyAt (kcell (c, 0)) () 3) ∗ (cred (tallyAt (kcell (c, 4)) () N) ∗ cred (tallyAt (kcell (c, 5)) () N) ∗ cred (tallyAt (kcell (c, 6)) () N))
    ∗ cred (tallyAt (kcell (c, 7)) () 3))
/-- Device `c`'s part of the exchange: what everyone knows, the positions at its own semaphores, its tokens. -/
def ghost (K : Dev nD × Fin 8 → ℕ) (c : Dev nD) : sProp 𝕄 :=
  iprop(records m ρ K ∗ (bigSep Finset.univ fun i : Fin 8 => atPos ER (kcell (c, i)) 0 ∅ 0) ∗ (bigSep Finset.univ fun j : Fin 3 => payTok j c))
/-- The kernel's four scratch buffers, at some contents. -/
def scratch (c : Dev nD) : sProp 𝕄 :=
  iprop((∃ f, holds (F := F) c cc0_scratch0 f) ∗ (∃ f, holds (F := F) c cc0_scratch1 f) ∗ (∃ f, holds (F := F) c cc0_scratch2 f) ∗ (∃ f, holds (F := F) c cc0_scratch3 f))
/-- The staged inputs. -/
def inputs (c : Dev nD) : sProp 𝕄 :=
  iprop(holds c cc0_stg0_0 (xIn m ρ c) ∗ holds c cc0_stg1_0 (gIn m ρ c) ∗ holds c cc0_stg2_0 (iIn m ρ c) ∗ holds c cc0_stg3_0 (wIn m ρ c) ∗ holds c cc0_stg4_0 (hIn m ρ c))

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- What a device holds when the kernel starts, -/
def bodyPre (K : Dev nD × Fin 8 → ℕ) (c : Dev nD) : sProp 𝕄 :=
  iprop(ghost m ρ K c ∗ credits c ∗ levAts L lv ∗ scratch c ∗ owesX c (left 0 c) ∗ inputs m ρ c ∗ (∃ f, holds (F := F) c cc0_stg5_0 f))
/-- and when it ends: nothing owed, every semaphore back at zero, the result computed. -/
def bodyPost (c : Dev nD) : sProp 𝕄 :=
  iprop((bigSep Finset.univ fun i : Fin 8 => semVal (kcell (c, i)) 0) ∗ scratch c ∗ owesX c 0 ∗ inputs m ρ c ∗ holds c cc0_stg5_0 (outAt m ρ c))

variable (K : Dev nD × Fin 8 → ℕ)

set_option maxHeartbeats 1600000 in
/-- The body, from `bodyPre` to `bodyPost`. -/
theorem sound_body (c : Dev nD) (Kt : PUnit → sProp 𝕄) :
    iprop(bodyPre m ρ K c ∗ (bodyPost m ρ c -∗ Kt ⟨⟩)) ⊢ runs c (onBufs (cc0_body (F := F))) Kt := by
  unfold onBufs
  rw [cc0_body_eq_skeleton]; unfold cc0_body_skel
  rw [k0_part13_eq_skeleton]; unfold k0_part13_skel
  simp only [semSignalWord, semWaitWord, Prog.lift, Prog.bind_op, Prog.bind_ret, Prog.pure_eq_ret]
  simp only [wp_bind]
  unfold bodyPre ghost credits scratch inputs
  rw [bigSep_fin8, bigSep_fin3]
  unfold payTok
  iintro ⟨⟨⟨#HR, ⟨Ha0, Ha1, Ha2, Ha3, Ha4, Ha5, Ha6, Ha7⟩, ⟨Hb0, He0, Hr0, Hs0⟩, ⟨Hb1, He1, Hr1, Hs1⟩, ⟨Hb2, He2, Hr2, Hs2⟩⟩,
    ⟨HcB, ⟨Hc4, Hc5, Hc6⟩, HcE⟩, #Hlev, ⟨HP, HB, ⟨%sf, Hsend⟩, ⟨%rf, Hrecv⟩⟩, HO, ⟨HX, HG, HI, HW, HH⟩, Hout⟩, Hk⟩
  ihave Hss := (sPts_split c sf) $$ Hsend
  icases Hss with ⟨Hss0, Hss1, Hss2⟩
  ihave Hrr := (rPts_split c rf) $$ Hrecv
  icases Hrr with ⟨Hrr0, Hrr1, Hrr2⟩
  -- the barrier, and the softmax
  iapply (part1_sound m ρ K c (xIn m ρ c) (gIn m ρ c) _)
  isplitl [HO Hb0 Hb1 Hb2 Hrr0 Hrr1 Hrr2 HcB Ha0 HX HG]
  · isplitr; · iexact HR
    isplitr; · iexact Hlev
    isplitl [HO]; · iexact HO
    isplitl [Hb0 Hb1 Hb2]
    · isplitl [Hb0]; · iexact Hb0
      isplitl [Hb1] <;> iassumption
    isplitl [Hrr0 Hrr1 Hrr2]
    · isplitl [Hrr2]; · iexists rf; iexact Hrr2
      isplitl [Hrr1]; · iexists rf; iexact Hrr1
      iexists rf; iexact Hrr0
    isplitl [HcB]; · iexact HcB
    isplitl [Ha0]; · iexact Ha0
    isplitl [HX] <;> iassumption
  unfold barPay
  iintro ⟨HO, Ha0, ⟨⟨Hd0, -⟩, ⟨Hd1, -⟩, ⟨Hd2, -⟩⟩, HX, HG⟩
  dsimp only
  -- the routed probabilities and the narrowed weights
  iapply (part2_sound c (xIn m ρ c) (iIn m ρ c) (wIn m ρ c) _ _ _ _)
  isplitl [HX HI HW HP HB]
  · isplitl [HX]; · iexact HX
    isplitl [HI]; · iexact HI
    isplitl [HW]; · iexact HW
    isplitl [HP] <;> iassumption
  iintro ⟨HX, HI, HW, HP, HB⟩
  dsimp only
  -- step 1
  iapply (part3_sound c (bAt m ρ c) _ _ _ _ _ _)
  isplitl [HB]; · iexact HB
  iintro HB
  dsimp only
  iapply (part4_sound m ρ K c (xIn m ρ c) (bAt m ρ c) _ _ _ _ _ _ rfl _)
  isplitl [HX HB Hss0 Hd0 HO Hs0 Hr0]
  · isplitr; · iexact HR
    isplitl [HX]; · iexact HX
    isplitl [HB]; · iexact HB
    isplitl [Hss0]; · iexists sf; iexact Hss0
    isplitl [Hd0]; · iexact Hd0
    isplitl [HO]; · iexact HO
    isplitl [Hs0] <;> iassumption
  iintro ⟨HX, HB, HO, Hc1⟩
  dsimp only
  -- step 2
  iapply (part5_sound c (pAt m ρ c) (bAt m ρ c) _ _ _ _)
  isplitl [HP HB]
  · isplitl [HP]; · iexact HP
    iexact HB
  iintro ⟨HP, HB⟩
  dsimp only
  iapply (part6_sound c (bAt m ρ c) _ _ _ _ _ _ _ _)
  isplitl [HB Hss1]
  · isplitl [HB]; · iexact HB
    iexists sf; iexact Hss1
  iintro ⟨HB, ⟨%s1, %hs1, Hss1⟩⟩
  iapply (part7_sound m ρ K c (xIn m ρ c) (pAt m ρ c) (bAt m ρ c) _ _ s1 hs1 _)
  isplitl [HX HP HB Hss1 Hd1 HO Hs1 Hr1]
  · isplitr; · iexact HR
    isplitl [HX]; · iexact HX
    isplitl [HP]; · iexact HP
    isplitl [HB]; · iexact HB
    isplitl [Hss1]; · iexact Hss1
    isplitl [Hd1]; · iexact Hd1
    isplitl [HO]; · iexact HO
    isplitl [Hs1] <;> iassumption
  iintro ⟨HX, HP, HB, HO, Hc2⟩
  dsimp only
  -- step 3
  iapply (part8_sound c (bAt m ρ c) _ _ _ _ _ _ _ _)
  isplitl [HB Hss2]
  · isplitl [HB]; · iexact HB
    iexists sf; iexact Hss2
  iintro ⟨HB, ⟨%s2, %hs2, Hss2⟩⟩
  iapply (part9_sound m ρ K c (xIn m ρ c) (pAt m ρ c) (bAt m ρ c) _ _ _ s2 hs2 _)
  isplitl [HX HP HB Hss2 Hd2 HO Hs2 Hr2]
  · isplitr; · iexact HR
    isplitl [HX]; · iexact HX
    isplitl [HP]; · iexact HP
    isplitl [HB]; · iexact HB
    isplitl [Hss2]; · iexact Hss2
    isplitl [Hd2]; · iexact Hd2
    isplitl [HO]; · iexact HO
    isplitl [Hs2] <;> iassumption
  iintro ⟨HX, HP, HB, HO, Hc3⟩
  dsimp only
  -- the device's own chunk
  iapply (part10_sound c (bAt m ρ c) _ _ _ _ _ _ _ _)
  isplitl [HB]; · iexact HB
  iintro HB
  dsimp only
  iapply (part11_sound m ρ K c (xIn m ρ c) (hIn m ρ c) _ _ _ _ _ _)
  isplitl [HX HH HO Hc4 Ha4 Hc5 Ha5]
  · isplitr; · iexact HR
    isplitr; · iexact Hlev
    isplitl [HX]; · iexact HX
    isplitl [HH]; · iexact HH
    isplitl [HO]; · iexact HO
    isplitl [Hc4 Ha4]
    · isplitl [Hc4] <;> iassumption
    isplitl [Hc5] <;> iassumption
  iintro ⟨HX, HH, HO, Ha4, Ha5, ⟨%r0, Hrr0⟩, Hrecv1⟩
  iapply (part12_sound m ρ K c _ _ _)
  isplitl [HO Hrecv1 Hout Hc6 Ha6 Hc1 Ha1]
  · isplitr; · iexact HR
    isplitr; · iexact Hlev
    isplitl [HO]; · iexact HO
    isplitl [Hrecv1]; · iexact Hrecv1
    isplitl [Hout]; · iexact Hout
    isplitl [Hc6 Ha6]
    · isplitl [Hc6] <;> iassumption
    isplitl [Hc1] <;> iassumption
  iintro ⟨HO, Ha6, Ha1, ⟨%r1, Hrr1⟩, ⟨%r2, Hrr2⟩, ⟨%s0, Hss0⟩, Hout⟩
  -- the other two send slots are back
  iapply (step_waitDma m ρ K 2 c rfl (credit_send 1) (Nat.one_mul N).symm ((dues c).drop 6) (before_end (i := 2) (by decide) c)) $$ [Hc2 HO Ha2]
  · isplitr; · iexact HR
    isplitr; · iexact Hlev
    isplitl [Hc2]; · iexact Hc2
    isplitl [HO] <;> iassumption
  iintro ⟨HO, Ha2, Hpay⟩
  ihave Hss1 := (Entails.of_eq (pays_send m ρ 1 c)) $$ Hpay
  iapply (step_waitDma m ρ K 3 c rfl (credit_send 2) (Nat.one_mul N).symm ((dues c).drop 6) (before_end (i := 3) (by decide) c)) $$ [Hc3 HO Ha3]
  · isplitr; · iexact HR
    isplitr; · iexact Hlev
    isplitl [Hc3]; · iexact Hc3
    isplitl [HO] <;> iassumption
  iintro ⟨HO, Ha3, Hpay⟩
  ihave Hss2 := (Entails.of_eq (pays_send m ρ 2 c)) $$ Hpay
  unfold sendPay runs
  icases Hss1 with ⟨%s1', Hss1⟩
  icases Hss2 with ⟨%s2', Hss2⟩
  -- the second barrier
  iapply (step_end m ρ K 0 c _ (dev7_eq c) (k' := 1) rfl (O₀ := left 6 c) (O := left 7 c) rfl) $$ [HO He0]
  · isplitr; · iexact HR
    isplitl [HO] <;> iassumption
  iintro HO
  iapply (step_end m ρ K 1 c _ (dev8_eq c) (k' := 1) rfl (O₀ := left 7 c) (O := left 8 c) rfl) $$ [HO He1]
  · isplitr; · iexact HR
    isplitl [HO] <;> iassumption
  iintro HO
  rw [wp_ret]; imodintro
  dsimp only
  iapply (step_end m ρ K 2 c _ (dev9_eq c) (k' := 1) rfl (O₀ := left 8 c) (O := left 9 c) rfl) $$ [HO He2]
  · isplitr; · iexact HR
    isplitl [HO] <;> iassumption
  iintro HO
  iapply (step_wait m ρ K 7 c (k' := 3) (wpE_semWait_eq 𝒱₀ (c : Thread nD τ) none Set.univ) (by decide) [] (by intro x hx; cases hx)) $$ [HcE HO Ha7]
  · isplitr; · iexact HR
    isplitr; · iexact Hlev
    isplitl [HcE]; · iexact HcE
    isplitl [HO]; · iexact HO
    iexact Ha7
  iintro ⟨HO, Ha7, -⟩
  -- every semaphore is closed
  imod (step_close m ρ K 0 c) $$ [Ha0] with Ha0
  · isplitr; · iexact HR
    iexact Ha0
  imod (step_close m ρ K 1 c) $$ [Ha1] with Ha1
  · isplitr; · iexact HR
    iexact Ha1
  imod (step_close m ρ K 2 c) $$ [Ha2] with Ha2
  · isplitr; · iexact HR
    iexact Ha2
  imod (step_close m ρ K 3 c) $$ [Ha3] with Ha3
  · isplitr; · iexact HR
    iexact Ha3
  imod (step_close m ρ K 4 c) $$ [Ha4] with Ha4
  · isplitr; · iexact HR
    iexact Ha4
  imod (step_close m ρ K 5 c) $$ [Ha5] with Ha5
  · isplitr; · iexact HR
    iexact Ha5
  imod (step_close m ρ K 6 c) $$ [Ha6] with Ha6
  · isplitr; · iexact HR
    iexact Ha6
  imod (step_close m ρ K 7 c) $$ [Ha7] with Ha7
  · isplitr; · iexact HR
    iexact Ha7
  ihave Hsend := (sPts_join c s0 s1' s2') $$ [Hss0 Hss1 Hss2]
  · isplitl [Hss0]; · iexact Hss0
    isplitl [Hss1] <;> iassumption
  ihave Hrecv := (rPts_join c r0 r1 r2) $$ [Hrr0 Hrr1 Hrr2]
  · isplitl [Hrr0]; · iexact Hrr0
    isplitl [Hrr1] <;> iassumption
  rw [wp_ret]; imodintro
  iapply Hk
  unfold bodyPost scratch inputs
  rw [bigSep_fin8]
  isplitl [Ha0 Ha1 Ha2 Ha3 Ha4 Ha5 Ha6 Ha7]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6] <;> iassumption
  isplitl [HP HB Hsend Hrecv]
  · isplitl [HP]; · iexists _; iexact HP
    isplitl [HB]; · iexists _; iexact HB
    isplitl [Hsend] <;> iassumption
  isplitl [HO]; · iexact HO
  isplitr [Hout]
  · isplitl [HX]; · iexact HX
    isplitl [HG]; · iexact HG
    isplitl [HI]; · iexact HI
    isplitl [HW] <;> iassumption
  iexact Hout

end Cert.KernelIdealProof

end
-- ==== Proof.DealKernelIdeal.lean ====
/-
# Dealing the exchange's resources at launch

From the machine's semaphores at zero: the semaphores' invariants, known to every device; each device's positions at its own
semaphores; and the tokens, minted at the semaphore that is paid and dealt to the device that pays. Then the credit, from what
the devices owe.
-/
module

public import proofs.«01_k».proof.Proof.BodyKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

/-! ## The tokens minted -/

/-- Of the four tokens of a device and a step: at which of the device's semaphores each is paid, -/
abbrev tokSem : Fin 4 → Fin 3 → Fin 8 | 0 => fun _ => 0 | 1 => fun _ => 7 | 2 => kR | 3 => kS
/-- and as which duty. -/
abbrev tokDuty : Fin 4 → Fin 3 → Fin 3 | 0 => id | 1 => id | 2 => fun _ => 0 | 3 => fun _ => 0
theorem tok_injective : ∀ t j t' j', tokSem t j = tokSem t' j' → tokDuty t j = tokDuty t' j' → (t, j) = (t', j') := by decide

abbrev tokOf (x : Dev nD × Fin 4 × Fin 3) : GSem nD τ sig × ℕ × Fin 3 := (kcell (x.1, tokSem x.2.1 x.2.2), 0, tokDuty x.2.1 x.2.2)
theorem tokOf_injective : Function.Injective tokOf := by
  rintro ⟨c, t, j⟩ ⟨c', t', j'⟩ h
  have h1 := kcell_injective (congrArg (fun x => x.1) h)
  have h2 : tokDuty t j = tokDuty t' j' := congrArg (fun x => x.2.2) h
  have h3 := tok_injective t j t' j' (congrArg Prod.snd h1) h2
  have h4 : c = c' := congrArg Prod.fst h1
  rw [h4, h3]

/-- The exchange's semaphores and its tokens. -/
def xCells : Finset (GSem nD τ sig) := Finset.univ.map ⟨kcell, kcell_injective⟩
def xToks : Finset (GSem nD τ sig × ℕ × Fin 3) := Finset.univ.map ⟨tokOf, tokOf_injective⟩

def u₀ : UU := (initOf (Pipeline.cells cfgs cellOf_inj) (Pipeline.launchToks cfgs cellOf_inj), initOf xCells xToks)

/-- The tokens minted at device `c`'s own semaphores, for step `j`. -/
def ownTok (x : Dev nD × Fin 3) : sProp 𝕄 :=
  iprop(dutyTok ER (kcell (x.1, 0)) 0 x.2 ∗ dutyTok ER (kcell (x.1, 7)) 0 x.2
    ∗ dutyTok ER (kcell (x.1, kR x.2)) 0 0 ∗ dutyTok ER (kcell (x.1, kS x.2)) 0 0)

/-- What the launch deals device `c` before the semaphores are opened, -/
def G (c : Dev nD) : sProp 𝕄 :=
  iprop((bigSep Finset.univ fun k : Fin 8 => roundState ER (xRd m ρ) (kcell (c, k)) 0)
    ∗ (bigSep Finset.univ fun k : Fin 8 => iprop(atPos ER (kcell (c, k)) 0 ∅ 0 ∗ reached ER (kcell (c, k)) 0))
    ∗ bigSep Finset.univ fun j : Fin 3 => ownTok (c, j))
/-- and after. -/
def G' (c : Dev nD) : sProp 𝕄 := iprop(∃ K, ghost m ρ K c)

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem fund_exchange : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 8 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => bigSep Finset.univ fun j : Fin 3 => ownTok (c, j) := by
    unfold xToks; rw [bigSep_map, bigSep_univ_prod]
    refine bigSep_congr fun c _ => ?_
    rw [bigSep_univ_prod, bigSep_fin4]
    unfold ownTok
    rw [bigSep_sep', bigSep_sep', bigSep_sep']
    rfl
  iintro HX
  imod (Rounds.fund ER (xRd m ρ) xCells xToks) $$ HX with ⟨Hst, Hr, Hat, Htok⟩
  imodintro
  ihave Hst' := (Entails.of_eq (hX fun g => roundState ER (xRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores opened -/

theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0
        ∗ semVal (kcell (c, 5)) 0 ∗ semVal (kcell (c, 6)) 0 ∗ semVal (kcell (c, 7)) 0) := by
  rw [Pipeline.ownSems0_eq_of_list c osem [0, 1, 2, 3, 4, 5, 6] (by decide) (by decide)]; rfl
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl
/-- The barrier semaphore and the kernel's own seven are the eight. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 8 => semVal (kcell (c, k)) 0 : sProp 𝕄) := by
  rw [ownSems0_eq, unscopedSems0_eq, bigSep_fin8]

/-- One device's semaphores get their invariants. -/
theorem open_sems (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (xRd m ρ) κ (kcell (c, k))))
          ∗ (bigSep Finset.univ fun k => iprop(atPos ER (kcell (c, k)) 0 ∅ 0 ∗ reached ER (kcell (c, k)) 0))
          ∗ bigSep Finset.univ fun j : Fin 3 => ownTok (c, j)) := by
  have hinv : iprop((bigSep Finset.univ fun k : Fin 8 => semVal (kcell (c, k)) 0) ∗ bigSep Finset.univ fun k : Fin 8 => roundState ER (xRd m ρ) (kcell (c, k)) 0)
      ⊢ (|={Set.univ}=> bigSep Finset.univ fun k => iprop(∃ κ : ℕ, cellInv ER (xRd m ρ) κ (kcell (c, k))) : sProp 𝕄) := by
    rw [← bigSep_sep']
    exact (bigSep_mono fun k _ => (Rounds.body_intro ER (xRd m ρ) (kcell (c, k))).trans inv_alloc).trans (bigSep_fupd _ _)
  unfold G
  iintro ⟨Hos, Hus, Hst, Hat, Htok⟩
  ihave Hv := (Entails.of_eq (sems0_eq (F := F) c)) $$ [Hos Hus]
  · isplitl [Hus] <;> iassumption
  imod hinv $$ [Hv Hst] with Hinv
  · isplitl [Hv] <;> iassumption
  imodintro
  isplitl [Hinv]; · iexact Hinv
  isplitl [Hat]; · iexact Hat
  iexact Htok

/-! ## The tokens dealt -/

/-- A device and a step, and the device that it pays at that step: back by the opposite step, -/
def turn : Dev nD × Fin 3 ≃ Dev nD × Fin 3 where
  toFun x := (fwd x.2 x.1, x.2.rev)
  invFun x := (fwd x.2 x.1, x.2.rev)
  left_inv := by decide
  right_inv := by decide
/-- or kept at the same step. -/
def shift : Dev nD × Fin 3 ≃ Dev nD × Fin 3 where
  toFun x := (fwd x.2 x.1, x.2)
  invFun x := (fwd x.2.rev x.1, x.2)
  left_inv := by decide
  right_inv := by decide

theorem toks_dealt : (bigSep Finset.univ fun c : Dev nD => bigSep Finset.univ fun j : Fin 3 => (ownTok (c, j) : sProp 𝕄))
    ⊢ bigSep Finset.univ fun c : Dev nD => bigSep Finset.univ fun j : Fin 3 => payTok j c := by
  rw [← bigSep_univ_prod (fun x : Dev nD × Fin 3 => (ownTok x : sProp 𝕄)), ← bigSep_univ_prod (fun x : Dev nD × Fin 3 => (payTok x.2 x.1 : sProp 𝕄))]
  unfold ownTok payTok
  rw [bigSep_sep', bigSep_sep', bigSep_sep', bigSep_sep', bigSep_sep', bigSep_sep',
    bigSep_univ_equiv turn (fun x : Dev nD × Fin 3 => (dutyTok ER (kcell (x.1, 0)) 0 x.2 : sProp 𝕄)),
    bigSep_univ_equiv turn (fun x : Dev nD × Fin 3 => (dutyTok ER (kcell (x.1, 7)) 0 x.2 : sProp 𝕄)),
    bigSep_univ_equiv shift (fun x : Dev nD × Fin 3 => (dutyTok ER (kcell (x.1, kR x.2)) 0 0 : sProp 𝕄))]
  exact BI.Entails.refl _

theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every device's share, from what all the devices' semaphores gave. -/
theorem regroup :
    (bigSep Finset.univ fun c : Dev nD => iprop((bigSep Finset.univ fun k => iprop(∃ κ : ℕ, cellInv ER (xRd m ρ) κ (kcell (c, k))))
          ∗ (bigSep Finset.univ fun k => iprop(atPos ER (kcell (c, k)) 0 ∅ 0 ∗ reached ER (kcell (c, k)) 0))
          ∗ bigSep Finset.univ fun j : Fin 3 => ownTok (c, j)) : sProp 𝕄)
      ⊢ bigSep Finset.univ (G' m ρ) := by
  rw [bigSep_sep', bigSep_sep', ← bigSep_univ_prod (fun p : Dev nD × Fin 8 => iprop(∃ κ : ℕ, cellInv ER (xRd m ρ) κ (kcell p))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun p : Dev nD × Fin 8 => (reached ER (kcell p) 0 : sProp 𝕄))]
  iintro ⟨HI, ⟨Hat, #HR⟩, Htok⟩
  ihave HK := (BI.bigSep_exists_pi Finset.univ (fun (p : Dev nD × Fin 8) (κ : ℕ) => (cellInv ER (xRd m ρ) κ (kcell p) : sProp 𝕄))) $$ HI
  icases HK with ⟨%K, #HI⟩
  ihave Htk := (toks_dealt (F := F)) $$ Htok
  have hghost : ∀ c ∈ (Finset.univ : Finset (Dev nD)), iprop(records m ρ K ∗ ((bigSep Finset.univ fun k : Fin 8 => atPos ER (kcell (c, k)) 0 ∅ 0)
      ∗ bigSep Finset.univ fun j : Fin 3 => payTok j c)) ⊢ G' m ρ c := fun c _ => by
    unfold G' ghost
    iintro H
    iexists K; iexact H
  iapply (with_known (R := records m ρ K) hghost)
  isplitr
  · unfold records; isplitl; · iexact HI
    iexact HR
  · rw [bigSep_sep']
    isplitl [Hat]; · iexact Hat
    iexact Htk

/-- The whole step, over all devices. -/
theorem deal : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => open_sems m ρ c).trans (bigSep_fupd _ _)).trans (BI.fupd_mono (regroup m ρ))

/-! ## The credit -/

/-- What device `c` owes at launch. -/
abbrev O₀ (c : Dev nD) : CellTallies nD τ sig Unit := left 0 c

/-- What all the devices together owe to a semaphore of each number. -/
def owedTo : Fin 8 → ℕ | 0 => 3 | 7 => 3 | 4 => N | 5 => N | 6 => N | _ => 0

theorem owed_sum (c : Dev nD) (k : Fin 8) : ∑ d : Dev nD, O₀ d (kcell (c, k)) () = owedTo k := by
  unfold O₀ left
  simp only [List.drop_zero, debts_apply]
  unfold dues owedTo
  generalize N = n
  rw [Fin.sum_univ_four]
  simp only [List.map_cons, List.map_nil, List.sum_cons, List.sum_nil]
  fin_cases c <;> fin_cases k <;> simp (decide := true) only [if_true, if_false, Nat.zero_add, Nat.add_zero, Fin.mk_zero, Fin.mk_one, Fin.zero_eta, Fin.reduceFinMk]

theorem credit_at (c : Dev nD) (k : Fin 8) :
    tallyOn (kcell (c, k)) (launchCredit (Pipeline.owing O₀) 0 (kcell (c, k))) = (tallyAt (kcell (c, k)) () (owedTo k) : CellTallies nD τ sig Unit) := by
  unfold tallyAt; refine congrArg _ (Finsupp.ext fun u => ?_); cases u
  rw [Pipeline.launchCredit_owing, Finsupp.single_eq_same]
  exact owed_sum c k

theorem credits_intro (c : Dev nD) : (Pipeline.launchCred O₀ c : sProp 𝕄) ⊢ credits c := by
  have h : (Pipeline.launchCred O₀ c : sProp 𝕄) ⊢ bigSep Finset.univ fun k : Fin 8 => cred (tallyAt (kcell (c, k)) () (owedTo k)) := by
    unfold Pipeline.launchCred
    refine (bigSep_subset (Finset.subset_univ (Finset.univ.map ⟨csem, csem_injective⟩))).trans ?_
    rw [bigSep_map]
    exact bigSep_mono fun k _ => Entails.of_eq (congrArg cred (credit_at c k))
  unfold credits
  iintro H
  ihave H := h $$ H
  ihave H := (Entails.of_eq (bigSep_fin8 _)) $$ H
  icases H with ⟨H0, -, -, -, H4, H5, H6, H7⟩
  isplitl [H0]; · iexact H0
  isplitr [H7]
  · isplitl [H4]; · iexact H4
    isplitl [H5]; · iexact H5
    iexact H6
  iexact H7

end Cert.KernelIdealProof

end
-- ==== Proof.LaunchKernelIdeal.lean ====
/-
# The run

The launch: the one pipeline's proof data, the body's obligation, the launch's side conditions, and the run. Every execution
ends, with each device's arrays at the computed contents and every semaphore at zero.
-/
module

public import proofs.«01_k».proof.Proof.DealKernelIdeal
public import Idealize.ShloMosaic.Lib.Pipeline.Value
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What device `c`'s body starts from beside its buffers. -/
def start (c : Dev nD) : sProp 𝕄 := iprop((∃ K, ghost m ρ K c) ∗ credits c ∗ levAts L lv)
/-- Before and after the one point. -/
def before₀ (c : Dev nD) : sProp 𝕄 := iprop(start m ρ c ∗ scratch (F := F) c)
def after₀ (c : Dev nD) : sProp 𝕄 := iprop((bigSep Finset.univ fun i : Fin 8 => semVal (kcell (c, i)) 0) ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => gIn m ρ c
    | ⟨2, _⟩ => iIn m ρ c
    | ⟨3, _⟩ => wIn m ρ c
    | ⟨4, _⟩ => hIn m ρ c
    | ⟨5, _⟩ => outAt m ρ c
  Φ t := match t with
    | ⟨0, _⟩ => before₀ m ρ c
    | ⟨_ + 1, _⟩ => after₀ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-- A buffer owned as a whole memref at contents `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

theorem stg_holds (c : Dev nD) (b : Ref sig .tc) (X : b.ty.Contents (Elt F)) : stg c b X = (holds c b X : sProp 𝕄) := by
  have h1 : (stg c b X : sProp 𝕄) ⊢ holds c b X := by
    unfold stg
    iintro ⟨%f, %h, H⟩
    subst h; iexact H
  have h2 : (holds c b X : sProp 𝕄) ⊢ stg c b X := by
    unfold stg
    iintro H
    iexists X
    isplitr
    · ipureintro; rfl
    iexact H
  exact BI.Entails.antisymm h1 h2

/-! ## The body's obligation -/

set_option maxRecDepth 8000 in
theorem staged (c : Dev nD) (d0 d1 d2 d3 d4) :
    (dats m ρ 0 c).before (0 : Fin 6) t0_0 d0 = xIn m ρ c ∧ (dats m ρ 0 c).before (1 : Fin 6) t0_0 d1 = gIn m ρ c
      ∧ (dats m ρ 0 c).before (2 : Fin 6) t0_0 d2 = iIn m ρ c ∧ (dats m ρ 0 c).before (3 : Fin 6) t0_0 d3 = wIn m ρ c
      ∧ (dats m ρ 0 c).before (4 : Fin 6) t0_0 d4 = hIn m ρ c := by
  refine ⟨?_, ?_, ?_, ?_, ?_⟩
  · unfold Dat.before; rw [if_pos (fetch0_0 t0_0)]; rfl
  · unfold Dat.before; rw [if_pos (fetch0_1 t0_0)]; rfl
  · unfold Dat.before; rw [if_pos (fetch0_2 t0_0)]; rfl
  · unfold Dat.before; rw [if_pos (fetch0_3 t0_0)]; rfl
  · unfold Dat.before; rw [if_pos (fetch0_4 t0_0)]; rfl

set_option maxRecDepth 8000 in
/-- What the pipeline gives the body at its one point, -/
def given (c : Dev nD) : sProp 𝕄 :=
  iprop(before₀ m ρ c ∗ (dats m ρ 0 c).owesAt () (Fin.castSucc (n := cfg0.N) t0_0)
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
set_option maxRecDepth 8000 in
/-- and what it asks back. -/
def asked (c : Dev nD) : sProp 𝕄 :=
  iprop(after₀ (F := F) c ∗ (dats m ρ 0 c).owesAt () (Fin.succ (n := cfg0.N) t0_0)
    ∗ stg c cc0_stg0_0 (xIn m ρ c) ∗ stg c cc0_stg1_0 (gIn m ρ c) ∗ stg c cc0_stg2_0 (iIn m ρ c) ∗ stg c cc0_stg3_0 (wIn m ρ c)
    ∗ stg c cc0_stg4_0 (hIn m ρ c) ∗ stg c cc0_stg5_0 (outAt m ρ c))

set_option maxRecDepth 8000 in
theorem obligation (c : Dev nD) : given m ρ c ⊢ runs c (onBufs (cc0_body (F := F))) fun _ => asked m ρ c := by
  unfold given before₀ start
  iintro ⟨⟨⟨⟨%K, Hg⟩, Hcr, Hlev⟩, Hscr⟩, Ho, ⟨%d0, Hx⟩, ⟨%d1, Hg'⟩, ⟨%d2, Hi⟩, ⟨%d3, Hw⟩, ⟨%d4, Hh⟩, ⟨%d5, Hout⟩⟩
  obtain ⟨e0, e1, e2, e3, e4⟩ := staged m ρ c d0 d1 d2 d3 d4
  rw [e0, e1, e2, e3, e4]
  simp only [stg_holds]
  unfold Dat.owesAt Pipeline.owesWithin
  icases Ho with ⟨%W, %hW, HO⟩
  iapply (sound_body m ρ K c fun _ => asked m ρ c)
  unfold bodyPre bodyPost inputs
  isplitr []
  · isplitl [Hg]; · iexact Hg
    isplitl [Hcr]; · iexact Hcr
    isplitl [Hlev]; · iexact Hlev
    isplitl [Hscr]; · iexact Hscr
    isplitl [HO]
    · unfold owesX
      iexists W; iexact HO
    isplitr [Hout]
    · isplitl [Hx]; · iexact Hx
      isplitl [Hg']; · iexact Hg'
      isplitl [Hi]; · iexact Hi
      isplitl [Hw] <;> iassumption
    · iexists _; iexact Hout
  · unfold asked after₀ Dat.owesAt Pipeline.owesWithin owesX
    simp only [stg_holds]
    iintro ⟨Hz, Hscr, ⟨%W', HO⟩, ⟨Hx, Hg', Hi, Hw, Hh⟩, Hout⟩
    isplitl [Hz Hscr]
    · isplitl [Hz] <;> iassumption
    isplitl [HO]
    · iexists W'
      isplitr
      · ipureintro; exact fun _ _ => Or.inl trivial
      iexact HO
    isplitl [Hx]; · iexact Hx
    isplitl [Hg']; · iexact Hg'
    isplitl [Hi]; · iexact Hi
    isplitl [Hw]; · iexact Hw
    isplitl [Hh] <;> iassumption

set_option maxRecDepth 8000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact obligation m ρ c

theorem share_eq (c : Dev nD) (w : Fin cfg0.W) : (dats m ρ 0 c).share w = fullShare := by unfold Dat.share; split <;> rfl

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (credits_intro (F := F) c) $$ Hcr
  imodintro
  unfold start G'
  isplitl
  · isplitl [HG]; · iexact HG
    isplitl [Hc] <;> iassumption
  · iempintro

theorem start_point (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before₀ m ρ c from rfl, scopedRest0_eq]
  unfold before₀ scratch
  iintro ⟨Hs, -, Hr⟩
  isplitl [Hs] <;> iassumption

theorem end_point (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after₀ c from rfl, scopedRest0_eq]
  unfold after₀ scratch
  rw [← sems0_eq]
  iintro ⟨⟨Hu, Ho⟩, Hr⟩
  isplitl [Hu]; · iexact Hu
  isplitl [Ho] <;> iassumption

/-- The staging semaphores are none of the exchange's. -/
theorem stage_sem : ∀ (w : Fin 6) (s : Fin (spec0 w).nbuf), kindOf (SemLoc.dma ((spec0 w).sem s)) = none := by decide
theorem dues_levels : ∀ c : Dev nD, ∀ x ∈ dues c, 0 < lvOf x.1.2 := by
  intro c x hx
  have h : ∀ k : Fin 8, k = 0 ∨ k = 4 ∨ k = 5 ∨ k = 6 ∨ k = 7 → 0 < lvOf k := by decide
  refine h _ ?_
  unfold dues at hx
  simp only [List.mem_cons, List.not_mem_nil, or_false] at hx
  rcases hx with rfl | rfl | rfl | rfl | rfl | rfl | rfl | rfl | rfl <;> simp

theorem waits (c : Dev nD) : (levAts L lv : sProp 𝕄) ⊢ Pipeline.cellsWaits cfgs (dats m ρ) () 0 c :=
  Pipeline.cellsWaits_intro cfgs (dats m ρ) () 0 c fun w s t => by
    have hk := stage_sem w s
    rcases t with ⟨_ | _, ht⟩
    · refine mayWait_of c _ (dues c) fun x hx => ?_
      rw [hk]; exact dues_levels c x hx
    · refine mayWait_of c _ [] fun x hx => ?_
      exact absurd hx List.not_mem_nil

/-! ## The run -/

def finalA (c : Dev nD) (w : Fin cfg0.W) : Buf (Elt F) ((cfg0.win w).arr.view.loc (c : Thread nD τ)) := (dats m ρ 0 c).arrAt w cfg0.N

/-- Each window's array holds its final contents. -/
def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with the semaphores at zero, every fair execution of the four devices ends, with the arrays at their
    final contents and every semaphore at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := deal m ρ)
    (hA := fun _ _ => rfl) (hpf := fun _ k => k.elim0)
    (X := start m ρ) (Y := fun c => unscopedSems0 c) (Z := fun _ => iprop(emp))
    (hX := start_intro m ρ) (hin := start_point m ρ) (hout := end_point m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The final arrays -/

theorem whole_index {s : Shape} (i : Fin s.rank → ℕ) (h : i = fun _ => 0) : (fun a => i a * s.size a) = fun _ => 0 := by
  subst h; funext a; exact Nat.zero_mul _

set_option maxRecDepth 8000 in
/-- The result array ends at the result block. -/
theorem finalA_out (c : Dev nD) : finalA m ρ c (5 : Fin 6) = outAt m ρ c := by
  have hz : (fun a => win0_5.index t0_0 a * main_v1.ty.shape.size a) = fun _ => 0 := funext fun a => Nat.zero_mul _
  have hr := Memref.read_access_unit_zero (Elt F) main_v1 hz (fun a => by rw [congrFun hz a]; simp) (finalA m ρ c (5 : Fin 6))
  refine hr.symm.trans ?_
  show (win0_5.blk t0_0).view.read (Elt F) (finalA m ρ c (5 : Fin 6)) = outAt m ρ c
  unfold finalA
  rw [show cfg0.N = (t0_0 : Fin cfg0.N).val + 1 from N_0, (dats m ρ 0 c).arrAt_succ (5 : Fin 6) t0_0, if_pos (flush0_5 t0_0)]
  exact View.read_write_univ _ _

/-- The staged inputs are the argument arrays. -/
theorem xIn_eq (c : Dev nD) : xIn m ρ c = m ((c : Thread nD τ).loc main_arg0) :=
  Memref.read_access_unit_zero (Elt F) main_arg0 (funext fun a => Nat.zero_mul _) _ _
theorem gIn_eq (c : Dev nD) : gIn m ρ c = m ((c : Thread nD τ).loc main_arg1) :=
  Memref.read_access_unit_zero (Elt F) main_arg1 (funext fun a => Nat.zero_mul _) _ _
theorem iIn_eq (c : Dev nD) : iIn m ρ c = m ((c : Thread nD τ).loc main_arg2) :=
  Memref.read_access_unit_zero (Elt F) main_arg2 (funext fun a => Nat.zero_mul _) _ _
theorem wIn_eq (c : Dev nD) : wIn m ρ c = m ((c : Thread nD τ).loc main_arg3) :=
  Memref.read_access_unit_zero (Elt F) main_arg3 (funext fun a => Nat.zero_mul _) _ _
theorem hIn_eq (c : Dev nD) : hIn m ρ c = m ((c : Thread nD τ).loc main_arg4) :=
  Memref.read_access_unit_zero (Elt F) main_arg4 (funext fun a => Nat.zero_mul _) _ _

/-- The run, read: the result is the result block, the arguments are unchanged, the semaphores are at zero. -/
theorem run : θ_run defs (onTc (τ := τ) (main (F := F))) ⟨m, fun _ => 0, ρ⟩ (fun r => (∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c (5 : Fin 6)).trans (finalA_out m ρ c),
    (h.1 c (0 : Fin 6)).trans ((dats (F := F) m ρ 0 c).arrAt_in (0 : Fin 6) rfl _),
    (h.1 c (1 : Fin 6)).trans ((dats (F := F) m ρ 0 c).arrAt_in (1 : Fin 6) rfl _),
    (h.1 c (2 : Fin 6)).trans ((dats (F := F) m ρ 0 c).arrAt_in (2 : Fin 6) rfl _),
    (h.1 c (3 : Fin 6)).trans ((dats (F := F) m ρ 0 c).arrAt_in (3 : Fin 6) rfl _),
    (h.1 c (4 : Fin 6)).trans ((dats (F := F) m ρ 0 c).arrAt_in (4 : Fin 6) rfl _)⟩, h.2⟩) (run_main m ρ)

end Cert.KernelIdealProof

end
-- ==== Proof.Scaling.lean ====
/-
# Scaling a sum of products

The one arithmetic law that the two programs differ by: the kernel scales a token before it is multiplied by an
expert's weights, the reference scales the product.
-/
module

public import Idealize.ShloMosaic.PureOps.Ideal

@[expose] public section

namespace Cert.Scaling

/-- A nonnegative finite factor may be taken out of a sum of extended reals. -/
theorem mul_sum_of_nonneg {ι : Type*} (w : EReal) (h0 : 0 ≤ w) (ht : w ≠ ⊤) (s : Finset ι) (f : ι → EReal) :
    w * ∑ k ∈ s, f k = ∑ k ∈ s, w * f k := by
  classical
  induction s using Finset.induction_on with
  | empty => simp
  | insert a s ha ih =>
    rw [Finset.sum_insert ha, Finset.sum_insert ha, EReal.left_distrib_of_nonneg_of_ne_top h0 ht, ih]

/-- Scaling the left factors by a nonnegative finite number scales the sum of the products, whatever the factors. -/
theorem sum_scaled {ι : Type*} (w : EReal) (h0 : 0 ≤ w) (ht : w ≠ ⊤) (s : Finset ι) (x y : ι → EReal) :
    ∑ k ∈ s, (x k * w) * y k = w * ∑ k ∈ s, x k * y k := by
  rw [mul_sum_of_nonneg w h0 ht]
  exact Finset.sum_congr rfl fun k _ => by rw [mul_comm (x k) w, mul_assoc]

/-- A sum of real numbers is the same sum taken in the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A sum over one row, all of whose terms but one are replaced by zero. -/
theorem sum_pick {ι : Type*} [Fintype ι] [DecidableEq ι] (e : ι) (f : ι → EReal) :
    (∑ l, if l = e then f l else 0) = f e := by
  simp

end Cert.Scaling
-- ==== Proof.Softmax.lean ====
/-
# The routed probability

Each token's probabilities over the sixteen experts are the softmax of its scores. A token's gate at an expert is the
probability if the token chose that expert and zero otherwise. With finite tokens and router weights every gate is a
nonnegative finite number.
-/
module

public import proofs.«01_k».proof.Proof.Scaling
public import Idealize.ShloMosaic.Lib.Pointwise

@[expose] public section

set_option maxRecDepth 16384

noncomputable section

namespace Cert.Softmax

open Idealize.ShloMosaic

/-- No element is infinite. -/
def Finite {s : Shape} (v : FVec Ideal s .f32) : Prop := ∀ j, v j ≠ ⊤ ∧ v j ≠ ⊥

/-- A choice by comparison of two numbers, zero where they differ. -/
theorem select_eq (a b : BitVec 32) (y : EReal) : Scalar.select (IntOp.cmpi .eq a b) y 0 = if a = b then y else 0 := by
  rw [Scalar.select_def]
  by_cases h : a = b
  · simp [IntOp.cmpi, h]
  · have hb : (a == b) = false := by simpa using h
    simp [IntOp.cmpi, h, hb]

variable (x : FVec Ideal ⟨2, ![2048, 512]⟩ .f32) (g : FVec Ideal ⟨2, ![512, 16]⟩ .f32) (I : IVec ⟨2, ![2048, 1]⟩ 32)

/-- The score of token `t` at expert `e`. -/
def score (t : Fin 2048) (e : Fin 16) : EReal := ∑ k : Fin 512, x (ix2 t k) * g (ix2 k e)

/-- The largest score of token `t`. -/
def top (t : Fin 2048) : EReal :=
  Finset.univ.fold max (Ideal.ofBits .f32 0xFF800000#32) fun e : Fin 16 => score x g t e

/-- The exponential of a score less the largest. -/
def weight (t : Fin 2048) (e : Fin 16) : EReal := Ideal.exp (score x g t e - top x g t)

/-- The softmax. -/
def prob (t : Fin 2048) (e : Fin 16) : EReal := Ideal.div (weight x g t e) (∑ e', weight x g t e')

/-- The probability at the chosen expert, zero elsewhere. -/
def gate (t : Fin 2048) (e : Fin 16) : EReal := if BitVec.ofNat 32 e.val = I (ix2 t 0) then prob x g t e else 0

variable {x g} (hx : Finite x) (hg : Finite g)
include hx hg

/-- A score is a real number, -/
theorem score_real (t : Fin 2048) (e : Fin 16) : ∃ r : ℝ, score x g t e = r := by
  refine ⟨∑ k : Fin 512, (x (ix2 t k)).toReal * (g (ix2 k e)).toReal, ?_⟩
  rw [score, Scaling.coe_sum]
  refine Finset.sum_congr rfl fun k _ => ?_
  rw [EReal.coe_mul, EReal.coe_toReal (hx _).1 (hx _).2, EReal.coe_toReal (hg _).1 (hg _).2]

/-- and so is the largest; -/
theorem top_real (t : Fin 2048) : ∃ r : ℝ, top x g t = r := by
  have hbot : Ideal.ofBits .f32 0xFF800000#32 = ⊥ := by simp [Ideal.ofBits, Ideal.ieee]
  have h1 : top x g t ≠ ⊤ := ne_of_lt (by
    rw [top, Finset.fold_max_lt]
    refine ⟨by rw [hbot]; exact bot_lt_top, fun e _ => ?_⟩
    obtain ⟨r, hr⟩ := score_real hx hg t e
    rw [hr]; exact EReal.coe_lt_top r)
  have h2 : top x g t ≠ ⊥ := ne_of_gt (by
    obtain ⟨r, hr⟩ := score_real hx hg t 0
    refine lt_of_lt_of_le (EReal.bot_lt_coe r) ?_
    rw [top, Finset.le_fold_max]
    exact Or.inr ⟨0, Finset.mem_univ _, hr.ge⟩)
  exact ⟨_, (EReal.coe_toReal h1 h2).symm⟩

/-- so a weight is a positive real number, -/
theorem weight_real (t : Fin 2048) (e : Fin 16) : ∃ r : ℝ, 0 < r ∧ weight x g t e = r := by
  obtain ⟨a, ha⟩ := score_real hx hg t e
  obtain ⟨b, hb⟩ := top_real hx hg t
  exact ⟨Real.exp (a - b), Real.exp_pos _, by rw [weight, ha, hb, ← EReal.coe_sub, Ideal.exp_coe]⟩

/-- a probability a nonnegative one, -/
theorem prob_real (t : Fin 2048) (e : Fin 16) : ∃ r : ℝ, 0 ≤ r ∧ prob x g t e = r := by
  choose w hw hwe using weight_real hx hg t
  have hpos : 0 < ∑ e', w e' := Finset.sum_pos (fun e' _ => hw e') Finset.univ_nonempty
  refine ⟨w e * (1 / ∑ e', w e'), mul_nonneg (hw e).le (by positivity), ?_⟩
  rw [prob, hwe e, Finset.sum_congr rfl fun e' _ => hwe e', ← Scaling.coe_sum, Ideal.div_coe hpos.ne', ← EReal.coe_mul]

/-- and so a gate. -/
theorem gate_real (t : Fin 2048) (e : Fin 16) : 0 ≤ gate x g I t e ∧ gate x g I t e ≠ ⊤ := by
  rw [gate]
  split
  · obtain ⟨r, h0, hr⟩ := prob_real hx hg t e
    exact ⟨by rw [hr]; exact_mod_cast h0, by rw [hr]; exact EReal.coe_ne_top r⟩
  · exact ⟨le_refl _, EReal.zero_ne_top⟩

end Cert.Softmax

end
-- ==== Proof.Precondition.lean ====
/-
# The precondition, read

The claim on the values is made for tokens and router weights whose absolute values are less than infinity: none of
them is infinite.
-/
module

public import proofs.«01_k».proof.Pre_finite_scores_KernelIdeal
public import proofs.«01_k».proof.Pre_finite_scores_ReferenceIdeal
public import proofs.«01_k».proof.Proof.Softmax

@[expose] public section

noncomputable section

namespace Cert.Precondition

open Idealize.ShloMosaic

/-- The side conditions of the two predicates. -/
theorem facts : Cert.Pre_finite_scores_KernelIdeal.Facts := ⟨by decide, by decide⟩
theorem facts_reference : Cert.Pre_finite_scores_ReferenceIdeal.Facts := ⟨by decide, by decide⟩

local instance : Cert.Pre_finite_scores_KernelIdeal.Facts := facts

/-- An absolute value less than infinity is that of a finite number. -/
theorem finite_of_abs_lt (y : EReal)
    (h : FloatOps.cmpf (F := Ideal) (φ := .f32) .olt (FloatOps.hostAbsf y) (FloatOps.ofBits .f32 0x7F800000#32) = 1#1) :
    y ≠ ⊤ ∧ y ≠ ⊥ := by
  have hinf : Ideal.ofBits .f32 0x7F800000#32 = ⊤ := by simp [Ideal.ofBits, Ideal.ieee]
  have h' : Ideal.cmp .olt (max y (-y)) (Ideal.ofBits .f32 0x7F800000#32) = 1#1 := h
  rw [hinf] at h'
  have hlt := max_lt_iff.mp ((Ideal.cmp_olt_eq_one _ _).mp h')
  exact ⟨hlt.1.ne, fun hb => hlt.2.ne (by rw [hb]; rfl)⟩

/-- Under the precondition the tokens and the router weights are finite. -/
theorem finite (x : FVec Ideal ⟨2, ![2048, 512]⟩ .f32) (g : FVec Ideal ⟨2, ![512, 16]⟩ .f32) (I : IVec ⟨2, ![2048, 1]⟩ 32)
    (w : FVec Ideal ⟨3, ![4, 512, 1024]⟩ .f32) (h : FVec Ideal ⟨2, ![512, 1024]⟩ .f32)
    (hp : (Cert.Pre_finite_scores_KernelIdeal.fn (F := Ideal) x g I w h).1 = (fun _ => 1#1)
      ∧ (Cert.Pre_finite_scores_KernelIdeal.fn (F := Ideal) x g I w h).2 = (fun _ => 1#1)) :
    Softmax.Finite x ∧ Softmax.Finite g :=
  ⟨fun j => finite_of_abs_lt _ (congrFun hp.1 j), fun j => finite_of_abs_lt _ (congrFun hp.2 j)⟩

end Cert.Precondition

end
-- ==== Proof.Contribution.lean ====
/-
# What a device contributes to a chunk

Every device adds up, for each of the four chunks of 512 tokens, the products of its four experts. The kernel writes
the sum out four times, cut differently; here it is one function, and the four texts are shown to be it.
-/
module

public import proofs.«01_k».proof.Proof.ContentsKernelIdeal
public import Idealize.ShloMosaic.Lib.Pointwise

@[expose] public section

set_option maxRecDepth 16384

noncomputable section

namespace Cert.KernelIdealProof

open Cert.KernelIdeal Cert.KernelIdeal.Gen

open Idealize.ShloMosaic

variable {F : FTy → Type} [FloatOps F]

/-- The chunk's tokens, each scaled by its routed probability at expert number `n`. -/
def weighted (n : BitVec 32) (x : Vec F S512x512 .f32) (p : Vec F S512x16 .f32) : FVec F S512x512 .bf16 :=
  truncf .bf16 (mulf (shapeCast S512x512 x shapeCasts_S512x512_S512x512 : FVec F S512x512 .f32)
    (broadcastTo S512x512 (shapeCast S512x1
      (multiReduction .add [1] S512
        (select (cmpi .eq (extractStridedSlice S512x16 ![0, 0] lanes slices_S2048x16_o0_0_S512x16) (broadcast S512x16 n)) p
          (broadcast S512x16 (Scalar.ofBits .f32 0x00000000#32 : F .f32)) : FVec F S512x16 .f32)
        0x00000000#32 reduces_S512x16_S512 (.inl rfl) rfl : FVec F S512 .f32)
      shapeCasts_S512_S512x1 : FVec F S512x1 .f32) broadcasts_S512x1_S512x512)) bitsLt_bf16_f32

/-- One expert's product. -/
def product (n : BitVec 32) (x : Vec F S512x512 .f32) (p : Vec F S512x16 .f32) (b : Vec F S1x512x1024 .bf16) : FVec F S512x1024 .f32 :=
  matmul dot_S512x512_S512x1024_S512x1024_1_0_0_1_n_n none (weighted n x p)
    (shapeCast S512x1024 b shapeCasts_S1x512x1024_S512x1024 : FVec F S512x1024 .bf16) (constant S512x1024 .f32 0x00000000#32)

/-- The number of a device's expert `j`, from the device's number as the kernel computes it. -/
def expertWord (v j : BitVec 32) : BitVec 32 := Scalar.addi (Scalar.muli v 4#32) j

/-- The sum of the first three experts' products. -/
def contrib012 (v : BitVec 32) (x : Vec F S512x512 .f32) (p : Vec F S512x16 .f32) (b0 b1 b2 : Vec F S1x512x1024 .bf16) :
    FVec F S512x1024 .f32 :=
  addf (addf (product (expertWord v 0#32) x p b0) (product (expertWord v 1#32) x p b1)) (product (expertWord v 2#32) x p b2)

/-- The sum of the four experts' products. -/
def contrib (v : BitVec 32) (x : Vec F S512x512 .f32) (p : Vec F S512x16 .f32) (b0 b1 b2 b3 : Vec F S1x512x1024 .bf16) :
    FVec F S512x1024 .f32 :=
  addf (contrib012 v x p b0 b1 b2) (product (expertWord v 3#32) x p b3)

/-- A contribution as it is sent: narrowed, one slot of the exchange buffer. -/
def packed (y : FVec F S512x1024 .f32) : FVec F S1x512x1024 .bf16 :=
  shapeCast S1x512x1024 (truncf .bf16 y bitsLt_bf16_f32 : FVec F S512x1024 .bf16) shapeCasts_S512x1024_S1x512x1024

variable (c : Dev nD) (X : Vec F S2048x512 .f32) (P : Vec F S2048x16 .f32) (B : Vec F S4x512x1024 .bf16)

/-- Step 1 sends the contribution to the next device's chunk, -/
theorem part0Of_eq : part0Of c X P B
    = packed (contrib (vid c) (rdX (xR1 c) X) (rdP (pR1 c) P) (rdB bR0 B) (rdB bR1 B) (rdB bR2 B) (rdB bR3 B)) := rfl

/-- step 2 the one to the chunk two places on, -/
theorem part1Of_eq : part1Of c X P B
    = packed (contrib (vid c) (rdX (xR2 c) X) (rdP (pR2 c) P) (rdB bR0 B) (rdB bR1 B) (rdB bR2 B) (rdB bR3 B)) := rfl

/-- step 3 the one three places on, -/
theorem part2Of_eq : part2Of c X P B
    = packed (contrib (vid c) (rdX (xR3 c) X) (rdP (pR3 c) P) (rdB bR0 B) (rdB bR1 B) (rdB bR2 B) (rdB bR3 B)) := rfl

/-- and the device keeps the one to its own chunk, in two parts. -/
theorem own012Of_eq : own012Of c X P B = contrib012 (vid c) (rdX (xR0 c) X) (rdP (pR0 c) P) (rdB bR0 B) (rdB bR1 B) (rdB bR2 B) := rfl
theorem own3Of_eq : own3Of c X P B = product (expertWord (vid c) 3#32) (rdX (xR0 c) X) (rdP (pR0 c) P) (rdB bR3 B) := rfl

end Cert.KernelIdealProof

end
-- ==== Proof.ContributionAt.lean ====
/-
# A contribution, element by element

Over the extended reals, the term of a device's expert `j` in the contribution to a token is the token's gate at that
expert times the product of the token with the expert's weights.
-/
module

public import proofs.«01_k».proof.Proof.Contribution
public import proofs.«01_k».proof.Proof.Softmax

@[expose] public section

set_option maxRecDepth 16384

noncomputable section

namespace Cert.KernelIdealProof

open Cert.KernelIdeal Cert.KernelIdeal.Gen

open Idealize.ShloMosaic

/-- Token `i` of chunk `q`, and the number of device `d`'s expert `j`. -/
def tok (q : Fin 4) (i : Fin 512) : Fin 2048 := ⟨512 * q.val + i.val, by omega⟩
def expert (d j : Fin 4) : Fin 16 := ⟨4 * d.val + j.val, by omega⟩

/-! ## The payloads -/

/-- A product's elements. -/
theorem product_at (n : BitVec 32) (x : FVec Ideal S512x512 .f32) (p : FVec Ideal S512x16 .f32) (b : FVec Ideal S1x512x1024 .bf16)
    (i : Fin 512) (h : Fin 1024) :
    product (F := Ideal) n x p b (ix2 i h)
      = ∑ k : Fin 512, (x (ix2 i k) * ∑ l : Fin 16, if BitVec.ofNat 32 l.val = n then p (ix2 i l) else 0) * b (ix3 0 k h) := by
  simp only [← Softmax.select_eq]
  pointwise [product, weighted]

/-- The routed probabilities are the gates. -/
theorem routed_at (x : FVec Ideal S2048x512 .f32) (g : FVec Ideal S512x16 .f32) (I : IVec S2048x1 32) (t : Fin 2048) (e : Fin 16) :
    routedOf (F := Ideal) x g I (ix2 t e) = Softmax.gate x g I t e := by
  rw [Softmax.gate, ← Softmax.select_eq]
  pointwise [routedOf, k0_pay1, k0_pay2, k0_pay3, Softmax.prob, Softmax.weight, Softmax.top, Softmax.score]

/-- A sent contribution's elements are the contribution's. -/
theorem packed_at (y : FVec Ideal S512x1024 .f32) (i : Fin 512) (h : Fin 1024) : packed y (ix3 0 i h) = y (ix2 i h) := by
  pointwise [packed]

/-- The result adds to the device's own contribution the shared product and the three contributions received. -/
theorem result_at (c : Dev nD) (X : FVec Ideal S2048x512 .f32) (P : FVec Ideal S2048x16 .f32) (B : FVec Ideal S4x512x1024 .bf16)
    (H : FVec Ideal S512x1024 .f32) (r0 r1 r2 : FVec Ideal S1x512x1024 .bf16) (i : Fin 512) (h : Fin 1024) :
    resultOf (F := Ideal) c X P B H r0 r1 r2 (ix2 i h)
      = own012Of c X P B (ix2 i h) + own3Of c X P B (ix2 i h) + ∑ k : Fin 512, rdX (F := Ideal) (xR0 c) X (ix2 i k) * H (ix2 k h)
        + r0 (ix3 0 i h) + r1 (ix3 0 i h) + r2 (ix3 0 i h) := by
  pointwise [resultOf, k0_pay29, k0_pay30]

/-! ## The pieces read -/

/-- Rows of the tokens that start at a chunk, -/
theorem rdX_at {off : Fin 2 → Nat} (hin) (q : Fin 4) (ho : off = ![512 * q.val, 0]) (X : FVec Ideal S2048x512 .f32)
    (i : Fin 512) (k : Fin 512) :
    rdX (F := Ideal) (Rect.unit (s := S2048x512) off S512x512.size hin) X (ix2 i k) = X (ix2 (tok q i) k) := by
  subst ho
  show X ((Rect.unit (s := S2048x512) ![512 * q.val, 0] S512x512.size hin).toLoadRect.idx (ix2 i k)) = _
  refine congrArg X (funext fun a => Fin.ext ?_)
  fin_cases a <;> simp [tok, Rect.unit, LoadRect.idx]

/-- of the routed probabilities, -/
theorem rdP_at {off : Fin 2 → Nat} (hin) (q : Fin 4) (ho : off = ![512 * q.val, 0]) (P : FVec Ideal S2048x16 .f32)
    (i : Fin 512) (e : Fin 16) :
    rdP (F := Ideal) (Rect.unit (s := S2048x16) off S512x16.size hin) P (ix2 i e) = P (ix2 (tok q i) e) := by
  subst ho
  show P ((Rect.unit (s := S2048x16) ![512 * q.val, 0] S512x16.size hin).toLoadRect.idx (ix2 i e)) = _
  refine congrArg P (funext fun a => Fin.ext ?_)
  fin_cases a <;> simp [tok, Rect.unit, LoadRect.idx]

/-- and one expert's weights, as narrowed. -/
theorem rdB_at (j : Fin 4) (hin) (W : FVec Ideal S4x512x1024 .f32) (k : Fin 512) (h : Fin 1024) :
    rdB (F := Ideal) (Rect.unit (s := S4x512x1024) ![j.val, 0, 0] S1x512x1024.size hin) (k0_pay4 (F := Ideal) W) (ix3 0 k h) = W (ix3 j k h) := by
  show k0_pay4 (F := Ideal) W ((Rect.unit (s := S4x512x1024) ![j.val, 0, 0] S1x512x1024.size hin).toLoadRect.idx (ix3 0 k h)) = _
  pointwise [k0_pay4]

/-! ## A term -/

/-- The kernel's number of an expert is the expert's number, -/
theorem expertWord_eq : ∀ d j : Fin 4, expertWord (vid d) (BitVec.ofNat 32 j.val) = BitVec.ofNat 32 (expert d j).val := by
  decide +kernel

/-- and numbers of experts do not collide. -/
theorem number_inj : ∀ e e' : Fin 16, BitVec.ofNat 32 e.val = BitVec.ofNat 32 e'.val ↔ e = e' := by
  decide +kernel

variable (X : FVec Ideal S2048x512 .f32) (G : FVec Ideal S512x16 .f32) (I : IVec S2048x1 32)

/-- What expert `j` of a device with weights `W` adds to token `t`, if its number is `e`. -/
def term (W : FVec Ideal S4x512x1024 .f32) (e : Fin 16) (j : Fin 4) (t : Fin 2048) (h : Fin 1024) : EReal :=
  Softmax.gate X G I t e * ∑ k : Fin 512, X (ix2 t k) * W (ix3 j k h)

/-- The four experts of device `d`, in the order in which the kernel adds them. -/
def share (W : FVec Ideal S4x512x1024 .f32) (d : Fin 4) (t : Fin 2048) (h : Fin 1024) : EReal :=
  term X G I W (expert d 0) 0 t h + term X G I W (expert d 1) 1 t h + term X G I W (expert d 2) 2 t h + term X G I W (expert d 3) 3 t h

variable {X G} (hX : Softmax.Finite X) (hG : Softmax.Finite G)
include hX hG

/-- The product of the gated tokens is the gate times the product of the tokens. -/
theorem product_term (W : FVec Ideal S4x512x1024 .f32) (d j q : Fin 4) {offX offP : Fin 2 → Nat} (hinX hinP hinB)
    (hoX : offX = ![512 * q.val, 0]) (hoP : offP = ![512 * q.val, 0]) (i : Fin 512) (h : Fin 1024) :
    product (F := Ideal) (expertWord (vid d) (BitVec.ofNat 32 j.val))
        (rdX (Rect.unit (s := S2048x512) offX S512x512.size hinX) X)
        (rdP (Rect.unit (s := S2048x16) offP S512x16.size hinP) (routedOf X G I))
        (rdB (Rect.unit (s := S4x512x1024) ![j.val, 0, 0] S1x512x1024.size hinB) (k0_pay4 (F := Ideal) W)) (ix2 i h)
      = term X G I W (expert d j) j (tok q i) h := by
  have hg : (∑ l : Fin 16, if BitVec.ofNat 32 l.val = BitVec.ofNat 32 (expert d j).val
      then rdP (F := Ideal) (Rect.unit (s := S2048x16) offP S512x16.size hinP) (routedOf X G I) (ix2 i l) else 0)
      = Softmax.gate X G I (tok q i) (expert d j) := by
    simp only [number_inj, rdP_at hinP q hoP, routed_at]
    exact Scaling.sum_pick _ fun l => Softmax.gate X G I (tok q i) l
  refine (product_at _ _ _ _ i h).trans ?_
  rw [expertWord_eq, hg]
  obtain ⟨h0, ht⟩ := Softmax.gate_real (I := I) hX hG (tok q i) (expert d j)
  rw [term, ← Scaling.sum_scaled _ h0 ht]
  exact Finset.sum_congr rfl fun k _ => by rw [rdX_at hinX q hoX, rdB_at]

/-- The contribution of device `d` to chunk `q` is its share. -/
theorem contrib_share (W : FVec Ideal S4x512x1024 .f32) (d q : Fin 4) {offX offP : Fin 2 → Nat} (hinX hinP)
    (hoX : offX = ![512 * q.val, 0]) (hoP : offP = ![512 * q.val, 0]) (i : Fin 512) (h : Fin 1024) :
    contrib (F := Ideal) (vid d)
        (rdX (Rect.unit (s := S2048x512) offX S512x512.size hinX) X)
        (rdP (Rect.unit (s := S2048x16) offP S512x16.size hinP) (routedOf X G I))
        (rdB bR0 (k0_pay4 (F := Ideal) W)) (rdB bR1 (k0_pay4 (F := Ideal) W)) (rdB bR2 (k0_pay4 (F := Ideal) W))
        (rdB bR3 (k0_pay4 (F := Ideal) W)) (ix2 i h)
      = share X G I W d (tok q i) h := by
  have key (j : Fin 4) (hinB) := product_term I hX hG W d j q hinX hinP hinB hoX hoP i h
  exact congrArg₂ (· + ·) (congrArg₂ (· + ·) (congrArg₂ (· + ·) (key 0 _) (key 1 _)) (key 2 _)) (key 3 _)

end Cert.KernelIdealProof

end
-- ==== Proof.ResultAt.lean ====
/-
# The result, element by element

A device's result at a token of its chunk is the shared product plus, over all sixteen experts, the token's gate times
its product with the expert's weights: the four devices' shares arrive in another order, but all of them arrive.
-/
module

public import proofs.«01_k».proof.Proof.ContributionAt

@[expose] public section

set_option maxRecDepth 16384

noncomputable section

namespace Cert.KernelIdealProof

open Cert.KernelIdeal Cert.KernelIdeal.Gen

open Idealize.ShloMosaic
open Idealize.ShloMosaic.TcCoe

/-! ## The order of the shares -/

/-- The device itself and the three it hears from are all the devices. -/
theorem sum_devices (f : Fin 4 → EReal) (s : EReal) (c : Dev nD) :
    f c + s + f (fwd (Fin.rev 0) c) + f (fwd (Fin.rev 1) c) + f (fwd (Fin.rev 2) c) = s + ∑ d, f d := by
  have hf (j : Fin 3) (d : Fin 4) (h : fwd (Fin.rev j) c = d) : f (fwd (Fin.rev j) c) = f d := congrArg f h
  rw [Fin.sum_univ_four]
  fin_cases c
  · rw [hf 0 3 (by decide), hf 1 2 (by decide), hf 2 1 (by decide)]; change f 0 + _ + _ + _ + _ = _; abel
  · rw [hf 0 0 (by decide), hf 1 3 (by decide), hf 2 2 (by decide)]; change f 1 + _ + _ + _ + _ = _; abel
  · rw [hf 0 1 (by decide), hf 1 0 (by decide), hf 2 3 (by decide)]; change f 2 + _ + _ + _ + _ = _; abel
  · rw [hf 0 2 (by decide), hf 1 1 (by decide), hf 2 0 (by decide)]; change f 3 + _ + _ + _ + _ = _; abel

/-- The devices' shares are the sixteen experts' terms, when the devices' weights are the experts'. -/
theorem sum_shares (X : FVec Ideal S2048x512 .f32) (G : FVec Ideal S512x16 .f32) (I : IVec S2048x1 32)
    (Wd : Fin 4 → FVec Ideal S4x512x1024 .f32) (W : FVec Ideal ⟨3, ![16, 512, 1024]⟩ .f32)
    (hW : ∀ d j k h, Wd d (ix3 j k h) = W (ix3 (expert d j) k h)) (t : Fin 2048) (h : Fin 1024) :
    ∑ d, share X G I (Wd d) d t h
      = ∑ e : Fin 16, Softmax.gate X G I t e * ∑ k : Fin 512, X (ix2 t k) * W (ix3 e k h) := by
  rw [Fin.sum_univ_tiles 4 4 rfl]
  refine Finset.sum_congr rfl fun d _ => ?_
  rw [Fin.sum_univ_four, share]
  have ht (j : Fin 4) : term X G I (Wd d) (expert d j) j t h
      = Softmax.gate X G I t (expert d j) * ∑ k : Fin 512, X (ix2 t k) * W (ix3 (expert d j) k h) := by
    simp only [term, hW]
  have he (j : Fin 4) : expert d j = ⟨d.val * 4 + j.val, by omega⟩ := Fin.ext (by simp [expert, Nat.mul_comm])
  rw [ht, ht, ht, ht, he, he, he, he]

/-! ## At a launch memory -/

variable (m : (ℓ : Loc nD τ sig) → Buf (Elt Ideal) ℓ) (ρ : Dev nD → PrngReg)
variable {X : FVec Ideal S2048x512 .f32} {G : FVec Ideal S512x16 .f32} {I : IVec S2048x1 32} {H : FVec Ideal S512x1024 .f32}
variable (hX : Softmax.Finite X) (hG : Softmax.Finite G)
variable (hx : ∀ c, xIn m ρ c = X) (hg : ∀ c, gIn m ρ c = G) (hi : ∀ c, iIn m ρ c = I) (hh : ∀ c, hIn m ρ c = H)
include hX hG hx hg hi

/-- What a device's step `j` sends is its share for the chunk `j + 1` places on. -/
theorem sent_at (j : Fin 3) (d : Dev nD) (i : Fin 512) (h : Fin 1024) :
    sentAt (F := Ideal) m ρ j d (ix3 0 i h) = share X G I (wIn m ρ d) d (tok (fwd j d) i) h := by
  have hp : pAt m ρ d = routedOf X G I := by rw [pAt, hx, hg, hi]
  fin_cases j
  · show part0Of d (xIn m ρ d) (pAt m ρ d) (k0_pay4 (wIn m ρ d)) (ix3 0 i h) = _
    rw [hp, hx, part0Of_eq, packed_at]
    exact contrib_share I hX hG _ d (fwd 0 d) _ _ (k0_off1_eq d 0) (k0_off2_eq d 0) i h
  · show part1Of d (xIn m ρ d) (pAt m ρ d) (k0_pay4 (wIn m ρ d)) (ix3 0 i h) = _
    rw [hp, hx, part1Of_eq, packed_at]
    exact contrib_share I hX hG _ d (fwd 1 d) _ _ (k0_off1_eq d 1) (k0_off2_eq d 1) i h
  · show part2Of d (xIn m ρ d) (pAt m ρ d) (k0_pay4 (wIn m ρ d)) (ix3 0 i h) = _
    rw [hp, hx, part2Of_eq, packed_at]
    exact contrib_share I hX hG _ d (fwd 2 d) _ _ (k0_off1_eq d 2) (k0_off2_eq d 2) i h

include hh in
/-- A device's result: the shared product and every device's share. -/
theorem out_at (c : Dev nD) (i : Fin 512) (h : Fin 1024) :
    outAt (F := Ideal) m ρ c (ix2 i h)
      = ∑ k : Fin 512, X (ix2 (tok c i) k) * H (ix2 k h) + ∑ d, share X G I (wIn m ρ d) d (tok c i) h := by
  have hp : pAt m ρ c = routedOf X G I := by rw [pAt, hx, hg, hi]
  have own : own012Of c X (routedOf X G I) (k0_pay4 (wIn m ρ c)) (ix2 i h) + own3Of c X (routedOf X G I) (k0_pay4 (wIn m ρ c)) (ix2 i h)
      = share X G I (wIn m ρ c) c (tok c i) h := contrib_share I hX hG _ c c _ _ (k0_off3_eq c) (k0_off4_eq c) i h
  rw [← sum_devices (fun d => share X G I (wIn m ρ d) d (tok c i) h) _ c]
  show resultOf c (xIn m ρ c) (pAt m ρ c) (k0_pay4 (wIn m ρ c)) (hIn m ρ c) _ _ _ (ix2 i h) = _
  rw [hp, hx, hh, result_at, own, sent_at m ρ hX hG hx hg hi, sent_at m ρ hX hG hx hg hi, sent_at m ρ hX hG hx hg hi,
    fwd_fwd_rev, fwd_fwd_rev, fwd_fwd_rev]
  simp only [rdX_at _ c (k0_off3_eq c)]

end Cert.KernelIdealProof

end
-- ==== Proof.ReferenceAt.lean ====
/-
# The reference, element by element

The reference's result at a token is the shared product plus, over the sixteen experts, the token's gate times its
product with the expert's weights.
-/
module

public import proofs.«01_k».proof.Proof.Gen.ReferenceIdeal
public import proofs.«01_k».proof.Proof.Softmax

@[expose] public section

set_option maxRecDepth 16384

noncomputable section

namespace Cert.ReferenceAt

open Cert.ReferenceIdeal Cert.ReferenceIdeal.Gen

open Idealize.ShloMosaic

variable (X : FVec Ideal S2048x512 .f32) (G : FVec Ideal S512x16 .f32) (I : IVec S2048x1 32)
variable (W : FVec Ideal S16x512x1024 .f32) (H : FVec Ideal S512x1024 .f32)

/-- The scores, their exponentials less each row's largest, -/
def scores : FVec Ideal S2048x16 .f32 := Host.dotGeneral dot_S2048x512_S512x16_S2048x16_1_0_0_1_n_n none X G
def weights : FVec Ideal S2048x16 .f32 :=
  Host.exp (subf (scores X G) (broadcastInDim S2048x16 ![0, 1] bcast_S2048x1_S2048x16_0_1
    (broadcastInDim S2048x1 ![0] bcast_S2048_S2048x1_0
      (Host.reduce FloatOps.maximumf (scores X G) (constant S_ .f32 0xFF800000#32) reducesTo_S2048x16_S2048_d1 h_S_))))
/-- and the probabilities. -/
def probs : FVec Ideal S2048x16 .f32 :=
  Host.divf (weights X G) (broadcastInDim S2048x16 ![0, 1] bcast_S2048x1_S2048x16_0_1
    (broadcastInDim S2048x1 ![0] bcast_S2048_S2048x1_0
      (Host.reduceAdd (weights X G) (constant S_ .f32 0x00000000#32) reducesTo_S2048x16_S2048_d1 h_S_)))
/-- Whether a token chose an expert. -/
def routed : IVec S2048x16 1 :=
  cmpi .eq (broadcastInDim S2048x16 ![0, 1] bcast_S2048x1_S2048x16_0_1 I)
    (broadcastInDim S2048x16 ![0, 1] bcast_S1x16_S2048x16_0_1 (broadcastInDim S1x16 ![1] bcast_S16_S1x16_1 (iotaInDim S16 32 0)))
/-- Every token's product with every expert's weights. -/
def products : FVec Ideal S2048x16x1024 .f32 := Host.dotGeneral dot_S2048x512_S16x512x1024_S2048x16x1024_1_1_0_02_n_n none X W
/-- The chosen experts' products times their probabilities. -/
def chosen : FVec Ideal S2048x16x1024 .f32 :=
  select (broadcastInDim S2048x16x1024 ![0, 1, 2] bcast_S2048x16x1_S2048x16x1024_0_1_2
      (broadcastInDim S2048x16x1 ![0, 1] bcast_S2048x16_S2048x16x1_0_1 (routed I)))
    (mulf (broadcastInDim S2048x16x1024 ![0, 1, 2] bcast_S2048x16x1_S2048x16x1024_0_1_2
      (broadcastInDim S2048x16x1 ![0, 1] bcast_S2048x16_S2048x16x1_0_1 (probs X G))) (products X W))
    (broadcastInDim S2048x16x1024 ![] bcast_S_S2048x16x1024 (id (constant S_ .f32 0x00000000#32)))
/-- The reference's result. -/
def result : FVec Ideal S2048x1024 .f32 :=
  addf (Host.dotGeneral dot_S2048x512_S512x1024_S2048x1024_1_0_0_1_n_n none X H)
    (Host.reduceAdd (chosen X G I W) (constant S_ .f32 0x00000000#32) reducesTo_S2048x16x1024_S2048x1024_d1 h_S_)

/-- The probabilities are the softmax of the scores; -/
theorem probs_at (t : Fin 2048) (e : Fin 16) : probs X G (ix2 t e) = Softmax.prob X G t e := by
  pointwise [probs, weights, scores, Softmax.prob, Softmax.weight, Softmax.top, Softmax.score]

/-- an expert's product at a token; -/
theorem products_at (t : Fin 2048) (e : Fin 16) (h : Fin 1024) :
    products X W (ix3 t e h) = ∑ k : Fin 512, X (ix2 t k) * W (ix3 e k h) := by
  pointwise [products]

/-- a chosen product is the gate times the product; -/
theorem chosen_at (t : Fin 2048) (e : Fin 16) (h : Fin 1024) :
    chosen X G I W (ix3 t e h) = Softmax.gate X G I t e * ∑ k : Fin 512, X (ix2 t k) * W (ix3 e k h) := by
  have hc : chosen X G I W (ix3 t e h)
      = Scalar.select (IntOp.cmpi .eq (I (ix2 t 0)) (BitVec.ofNat 32 e.val)) (probs X G (ix2 t e) * products X W (ix3 t e h)) 0 := by
    pointwise [chosen, routed, id_eq]
  rw [hc, Softmax.select_eq, probs_at, products_at, Softmax.gate]
  by_cases he : BitVec.ofNat 32 e.val = I (ix2 t 0)
  · rw [if_pos he.symm, if_pos he]
  · rw [if_neg (Ne.symm he), if_neg he, zero_mul]

/-- and the result. -/
theorem result_at (t : Fin 2048) (h : Fin 1024) :
    result X G I W H (ix2 t h) = ∑ k : Fin 512, X (ix2 t k) * H (ix2 k h)
      + ∑ e : Fin 16, Softmax.gate X G I t e * ∑ k : Fin 512, X (ix2 t k) * W (ix3 e k h) := by
  simp only [← chosen_at]
  pointwise [result]

end Cert.ReferenceAt

end
-- ==== Proof.Equation.lean ====
/-
# The equation

Over the extended reals, with finite tokens and router weights, each device's result is its block of 512 rows of the
reference's result.
-/
module

public import proofs.«01_k».proof.Defs
public import proofs.«01_k».proof.Proof.LaunchKernelIdeal
public import proofs.«01_k».proof.Proof.ResultAt
public import proofs.«01_k».proof.Proof.ReferenceAt
public import proofs.«01_k».proof.Proof.Gen.ReferenceIdeal.Run
public import proofs.«01_k».proof.Proof.Precondition

@[expose] public section

set_option maxRecDepth 16384

noncomputable section

namespace Cert.Equation

open Idealize.ShloMosaic Idealize.SL.Sem
open Cert.KernelIdealProof

local instance : Cert.KernelIdeal.Facts := Cert.KernelIdeal.Gen.facts
local instance : Cert.ReferenceIdeal.Facts := Cert.ReferenceIdeal.Gen.facts
local instance : Cert.Pre_finite_scores_KernelIdeal.Facts := Cert.Precondition.facts

/-- Device `c`'s block of 512 rows, read at a row: the array's row of that number in chunk `c`. -/
theorem block_rows (v : FVec Ideal ⟨2, ![2048, 1024]⟩ .f32) (c : Fin 4) (i : Fin 512) (h : Fin 1024) :
    Layout.block ⟨2, ![512, 1024]⟩ ⟨2, ![2048, 1024]⟩ 0 4 c v (by decide) (ix2 i h) = v (ix2 (tok c i) h) := by
  refine congrArg v (funext fun a => Fin.ext ?_)
  rw [Layout.Tiles.idx_val]
  fin_cases a <;> simp [tok, Nat.mul_comm]

/-- Device `d`'s block of four experts' weights, read at an expert: the array's expert of that number. -/
theorem block_experts (W : FVec Ideal ⟨3, ![16, 512, 1024]⟩ .f32) (d j : Fin 4) (k : Fin 512) (h : Fin 1024) :
    Layout.block ⟨3, ![4, 512, 1024]⟩ ⟨3, ![16, 512, 1024]⟩ 0 4 d W (by decide) (ix3 j k h) = W (ix3 (expert d j) k h) := by
  refine congrArg W (funext fun a => Fin.ext ?_)
  rw [Layout.Tiles.idx_val]
  fin_cases a <;> simp [expert, Nat.mul_comm]

/-- Each device's result block is its block of the reference's result. -/
theorem out_eq (m : (ℓ : Loc Cert.KernelIdeal.nD Cert.KernelIdeal.τ Cert.KernelIdeal.sig) → Buf (Elt Ideal) ℓ)
    (ρ : Dev Cert.KernelIdeal.nD → PrngReg)
    (X : FVec Ideal ⟨2, ![2048, 512]⟩ .f32) (G : FVec Ideal ⟨2, ![512, 16]⟩ .f32) (I : IVec ⟨2, ![2048, 1]⟩ 32)
    (W : FVec Ideal ⟨3, ![16, 512, 1024]⟩ .f32) (H : FVec Ideal ⟨2, ![512, 1024]⟩ .f32)
    (hX : Softmax.Finite X) (hG : Softmax.Finite G)
    (hx : ∀ c, xIn m ρ c = X) (hg : ∀ c, gIn m ρ c = G) (hi : ∀ c, iIn m ρ c = I)
    (hw : ∀ c, wIn m ρ c = Layout.block ⟨3, ![4, 512, 1024]⟩ ⟨3, ![16, 512, 1024]⟩ 0 4 c W) (hh : ∀ c, hIn m ρ c = H)
    (c : Fin 4) :
    outAt m ρ c = Layout.block ⟨2, ![512, 1024]⟩ ⟨2, ![2048, 1024]⟩ 0 4 c (ReferenceAt.result X G I W H) := by
  funext y
  obtain ⟨i, h, rfl⟩ : ∃ (i : Fin 512) (h : Fin 1024), y = ix2 i h := ⟨y 0, y 1, eq_ix2 y⟩
  refine (out_at m ρ hX hG hx hg hi hh c i h).trans ?_
  rw [sum_shares X G I (wIn m ρ) W fun d j k h => by rw [hw]; exact block_experts W d j k h]
  exact ((block_rows _ c i h).trans (ReferenceAt.result_at X G I W H (tok c i) h)).symm

/-- The claim. -/
theorem algebraic : Cert.algebraic_KernelIdeal_ReferenceIdeal_pre_finite_scores_KernelIdeal := by
  intro m g m' g' hpre hm
  refine ⟨ReferenceAt.result
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)),
    (θ_run Cert.KernelIdeal.defs _ _).mono (fun _ h c => ⟨(h.1 c).1.trans ?_, (h.1 c).2⟩) (Cert.KernelIdealProof.run (F := Ideal) m g),
    (θ_run Cert.ReferenceIdeal.defs _ _).mono (fun _ h => h 0) (Cert.ReferenceIdeal.Value.run (F := Ideal) m' g')⟩
  obtain ⟨hX, hG⟩ := Cert.Precondition.finite _ _ _ _ _ (hpre 0)
  exact out_eq m g _ _ _ _ _ ((hm 0).1 ▸ hX) ((hm 0).2.1 ▸ hG)
    (fun c => (xIn_eq m g c).trans (hm c).1) (fun c => (gIn_eq m g c).trans (hm c).2.1) (fun c => (iIn_eq m g c).trans (hm c).2.2.1)
    (fun c => (wIn_eq m g c).trans (hm c).2.2.2.1) (fun c => (hIn_eq m g c).trans (hm c).2.2.2.2) c

end Cert.Equation

end
-- ==== Proof.lean ====
/-
# The claims

The kernel and its ideal form run to the end on every device, change no argument and leave every semaphore at zero; the
reference does so too; the ideal form is the kernel's own text; and over the extended reals each device's result is
its block of 512 rows of the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.LaunchKernel
public import proofs.«01_k».proof.Proof.LaunchKernelIdeal
public import proofs.«01_k».proof.Proof.Precondition
public import proofs.«01_k».proof.Proof.Equation
public import Idealize.ShloMosaic.Adequacy
public import Idealize.ShloMosaic.Init

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_finite_scores_KernelIdeal.Facts := Cert.Precondition.facts
local instance : Cert.Pre_finite_scores_ReferenceIdeal.Facts := Cert.Precondition.facts_reference

/-- The kernel runs to the end, its arguments unchanged and its semaphores at zero, -/
theorem kernel_frame : Cert.quiescent_Kernel := fun m g _ =>
  (θ_run Cert.Kernel.defs _ _).mono (fun _ h => ⟨fun c => (h.1 c).2, h.2⟩) (Cert.KernelProof.run (F := Bits) m g)

/-- and so does its ideal form, -/
theorem ideal_frame : Cert.quiescent_KernelIdeal := fun m g _ =>
  (θ_run Cert.KernelIdeal.defs _ _).mono (fun _ h => ⟨fun c => (h.1 c).2, h.2⟩) (Cert.KernelIdealProof.run (F := Ideal) m g)

/-- and the reference. -/
theorem reference_frame : Cert.quiescent_ReferenceIdeal := fun m g _ =>
  (θ_run Cert.ReferenceIdeal.defs _ _).mono (fun r h => ⟨fun c => (h c).2, sem_eq_zero_of_no_sems (by decide) r.2⟩) (Cert.ReferenceIdeal.Value.run (F := Ideal) m g)

/-- All the claims; the frames need no precondition. -/
theorem claim : Cert.Claim :=
  ⟨Cert.Kernel.Gen.facts, Cert.KernelIdeal.Gen.facts, Cert.ReferenceIdeal.Gen.facts,
    Cert.Precondition.facts, Cert.Precondition.facts_reference,
    kernel_frame, ideal_frame, fun m g _ => ideal_frame m g trivial, reference_frame, fun m g _ => reference_frame m g trivial,
    trivial, Cert.Equation.algebraic⟩

end Cert.Proof

end
